-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x8192 : Shape := ⟨3, ![8, 2048, 8192]⟩
abbrev S14336x8192 : Shape := ⟨2, ![14336, 8192]⟩
abbrev S14336x64 : Shape := ⟨2, ![14336, 64]⟩
abbrev S_ : Shape := ⟨0, ![]⟩

class Facts : Prop where
  bcast_S_S8x2048x8192 : S_.BroadcastsInDim S8x2048x8192 (![] : Fin 0 → Fin S8x2048x8192.rank)

variable [Facts]

def fn {F : FTy → Type} [FloatOps F] (main_arg0 : FVec F S8x2048x8192 .bf16) (main_arg1 : FVec F S14336x8192 .fp8e4m3) (main_arg2 : FVec F S14336x64 .f32) : IVec S8x2048x8192 1 :=
  let main_v0 : FVec F S8x2048x8192 .bf16 := Host.absf main_arg0
  let main_cst : FVec F S_ .bf16 := constant S_ .bf16 0x7F7F#16
  let main_v1 : FVec F S8x2048x8192 .bf16 := broadcastInDim S8x2048x8192 ![] bcast_S_S8x2048x8192 main_cst
  let main_v2 : IVec S8x2048x8192 1 := cmpf .ole main_v0 main_v1
  main_v2
-- ==== Kernel.lean ====
abbrev S8x2048x8192 : Shape := ⟨3, ![8, 2048, 8192]⟩
abbrev S14336x8192 : Shape := ⟨2, ![14336, 8192]⟩
abbrev S14336x64 : Shape := ⟨2, ![14336, 64]⟩
abbrev S16384x8192 : Shape := ⟨2, ![16384, 8192]⟩
abbrev S16384x14336 : Shape := ⟨2, ![16384, 14336]⟩
abbrev S16384x64 : Shape := ⟨2, ![16384, 64]⟩
abbrev S512x8192 : Shape := ⟨2, ![512, 8192]⟩
abbrev S512x64 : Shape := ⟨2, ![512, 64]⟩
abbrev S512x512 : Shape := ⟨2, ![512, 512]⟩
abbrev S64x8192 : Shape := ⟨2, ![64, 8192]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S64x64 : Shape := ⟨2, ![64, 64]⟩
abbrev S512x1 : Shape := ⟨2, ![512, 1]⟩
abbrev S512x128 : Shape := ⟨2, ![512, 128]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x8192, .bf16⟩
  | .hbm, ⟨1, _⟩ => ⟨S14336x8192, .fp8e4m3⟩
  | .hbm, ⟨2, _⟩ => ⟨S14336x64, .f32⟩
  | .hbm, ⟨3, _⟩ => ⟨S16384x8192, .bf16⟩
  | .hbm, ⟨4, _⟩ => ⟨S16384x14336, .bf16⟩
  | .hbm, ⟨5, _⟩ => ⟨S16384x8192, .fp8e4m3⟩
  | .hbm, ⟨6, _⟩ => ⟨S16384x64, .f32⟩
  | .local _ .vmem, ⟨0, _⟩ => ⟨S512x8192, .bf16⟩
  | .local _ .vmem, ⟨1, _⟩ => ⟨S512x8192, .bf16⟩
  | .local _ .vmem, ⟨2, _⟩ => ⟨S512x8192, .fp8e4m3⟩
  | .local _ .vmem, ⟨3, _⟩ => ⟨S512x8192, .fp8e4m3⟩
  | .local _ .vmem, ⟨4, _⟩ => ⟨S512x64, .f32⟩
  | .local _ .vmem, ⟨5, _⟩ => ⟨S512x64, .f32⟩
  | .local _ .vmem, ⟨6, _⟩ => ⟨S512x512, .bf16⟩
  | .local _ .vmem, ⟨7, _⟩ => ⟨S512x512, .bf16⟩
  | .local _ .vmem, ⟨8, _⟩ => ⟨S512x8192, .fp8e4m3⟩
  | .local _ .vmem, ⟨9, _⟩ => ⟨S512x8192, .fp8e4m3⟩
  | .local _ .vmem, ⟨10, _⟩ => ⟨S512x64, .f32⟩
  | .local _ .vmem, ⟨11, _⟩ => ⟨S512x64, .f32⟩
  | .local _ .vmem, ⟨12, _⟩ => ⟨S512x8192, .bf16⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 28], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_134 : BitVec 32 := 0#32
  let c8_i32 : BitVec 32 := 8#32
  let v456 : BitVec 32 := Scalar.addi c0_i32_134 c8_i32
  let c1_i32 : BitVec 32 := 1#32
  ⟨c0_i32_134, v456, c1_i32⟩
def k0_mult1 (k0_t1 : Fin k0_t1_loop.trips) : BitVec 32 :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  v457
def k0_off1 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v459 : Index := Scalar.indexCast v458
  let c0_136 : Index := 0#32
  ![v459.toNat, 0]
def k0_off2 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3536 : Index := Scalar.indexCast v458
  let c0_906 : Index := 0#32
  ![v3536.toNat, 0]
def k0_off3 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3542 : Index := Scalar.indexCast v458
  let c128_908 : Index := 128#32
  ![v3542.toNat, 128]
def k0_off4 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3548 : Index := Scalar.indexCast v458
  let c256_910 : Index := 256#32
  ![v3548.toNat, 256]
def k0_off5 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3554 : Index := Scalar.indexCast v458
  let c384_912 : Index := 384#32
  ![v3554.toNat, 384]
def k0_off6 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3560 : Index := Scalar.indexCast v458
  let c512_914 : Index := 512#32
  ![v3560.toNat, 512]
def k0_off7 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3566 : Index := Scalar.indexCast v458
  let c640_916 : Index := 640#32
  ![v3566.toNat, 640]
def k0_off8 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3572 : Index := Scalar.indexCast v458
  let c768_918 : Index := 768#32
  ![v3572.toNat, 768]
def k0_off9 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3578 : Index := Scalar.indexCast v458
  let c896_920 : Index := 896#32
  ![v3578.toNat, 896]
def k0_off10 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3584 : Index := Scalar.indexCast v458
  let c1024_922 : Index := 1024#32
  ![v3584.toNat, 1024]
def k0_off11 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3590 : Index := Scalar.indexCast v458
  let c1152_924 : Index := 1152#32
  ![v3590.toNat, 1152]
def k0_off12 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3596 : Index := Scalar.indexCast v458
  let c1280_926 : Index := 1280#32
  ![v3596.toNat, 1280]
def k0_off13 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3602 : Index := Scalar.indexCast v458
  let c1408_928 : Index := 1408#32
  ![v3602.toNat, 1408]
def k0_off14 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3608 : Index := Scalar.indexCast v458
  let c1536_930 : Index := 1536#32
  ![v3608.toNat, 1536]
def k0_off15 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3614 : Index := Scalar.indexCast v458
  let c1664_932 : Index := 1664#32
  ![v3614.toNat, 1664]
def k0_off16 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3620 : Index := Scalar.indexCast v458
  let c1792_934 : Index := 1792#32
  ![v3620.toNat, 1792]
def k0_off17 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3626 : Index := Scalar.indexCast v458
  let c1920_936 : Index := 1920#32
  ![v3626.toNat, 1920]
def k0_off18 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3632 : Index := Scalar.indexCast v458
  let c2048_938 : Index := 2048#32
  ![v3632.toNat, 2048]
def k0_off19 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3638 : Index := Scalar.indexCast v458
  let c2176_940 : Index := 2176#32
  ![v3638.toNat, 2176]
def k0_off20 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3644 : Index := Scalar.indexCast v458
  let c2304_942 : Index := 2304#32
  ![v3644.toNat, 2304]
def k0_off21 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3650 : Index := Scalar.indexCast v458
  let c2432_944 : Index := 2432#32
  ![v3650.toNat, 2432]
def k0_off22 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3656 : Index := Scalar.indexCast v458
  let c2560_946 : Index := 2560#32
  ![v3656.toNat, 2560]
def k0_off23 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3662 : Index := Scalar.indexCast v458
  let c2688_948 : Index := 2688#32
  ![v3662.toNat, 2688]
def k0_off24 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3668 : Index := Scalar.indexCast v458
  let c2816_950 : Index := 2816#32
  ![v3668.toNat, 2816]
def k0_off25 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3674 : Index := Scalar.indexCast v458
  let c2944_952 : Index := 2944#32
  ![v3674.toNat, 2944]
def k0_off26 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3680 : Index := Scalar.indexCast v458
  let c3072_954 : Index := 3072#32
  ![v3680.toNat, 3072]
def k0_off27 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3686 : Index := Scalar.indexCast v458
  let c3200_956 : Index := 3200#32
  ![v3686.toNat, 3200]
def k0_off28 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3692 : Index := Scalar.indexCast v458
  let c3328_958 : Index := 3328#32
  ![v3692.toNat, 3328]
def k0_off29 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3698 : Index := Scalar.indexCast v458
  let c3456_960 : Index := 3456#32
  ![v3698.toNat, 3456]
def k0_off30 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3704 : Index := Scalar.indexCast v458
  let c3584_962 : Index := 3584#32
  ![v3704.toNat, 3584]
def k0_off31 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3710 : Index := Scalar.indexCast v458
  let c3712_964 : Index := 3712#32
  ![v3710.toNat, 3712]
def k0_off32 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3716 : Index := Scalar.indexCast v458
  let c3840_966 : Index := 3840#32
  ![v3716.toNat, 3840]
def k0_off33 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3722 : Index := Scalar.indexCast v458
  let c3968_968 : Index := 3968#32
  ![v3722.toNat, 3968]
def k0_off34 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3728 : Index := Scalar.indexCast v458
  let c4096_970 : Index := 4096#32
  ![v3728.toNat, 4096]
def k0_off35 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3734 : Index := Scalar.indexCast v458
  let c4224_972 : Index := 4224#32
  ![v3734.toNat, 4224]
def k0_off36 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3740 : Index := Scalar.indexCast v458
  let c4352_974 : Index := 4352#32
  ![v3740.toNat, 4352]
def k0_off37 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3746 : Index := Scalar.indexCast v458
  let c4480_976 : Index := 4480#32
  ![v3746.toNat, 4480]
def k0_off38 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3752 : Index := Scalar.indexCast v458
  let c4608_978 : Index := 4608#32
  ![v3752.toNat, 4608]
def k0_off39 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3758 : Index := Scalar.indexCast v458
  let c4736_980 : Index := 4736#32
  ![v3758.toNat, 4736]
def k0_off40 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3764 : Index := Scalar.indexCast v458
  let c4864_982 : Index := 4864#32
  ![v3764.toNat, 4864]
def k0_off41 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3770 : Index := Scalar.indexCast v458
  let c4992_984 : Index := 4992#32
  ![v3770.toNat, 4992]
def k0_off42 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3776 : Index := Scalar.indexCast v458
  let c5120_986 : Index := 5120#32
  ![v3776.toNat, 5120]
def k0_off43 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3782 : Index := Scalar.indexCast v458
  let c5248_988 : Index := 5248#32
  ![v3782.toNat, 5248]
def k0_off44 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3788 : Index := Scalar.indexCast v458
  let c5376_990 : Index := 5376#32
  ![v3788.toNat, 5376]
def k0_off45 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3794 : Index := Scalar.indexCast v458
  let c5504_992 : Index := 5504#32
  ![v3794.toNat, 5504]
def k0_off46 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3800 : Index := Scalar.indexCast v458
  let c5632_994 : Index := 5632#32
  ![v3800.toNat, 5632]
def k0_off47 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3806 : Index := Scalar.indexCast v458
  let c5760_996 : Index := 5760#32
  ![v3806.toNat, 5760]
def k0_off48 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3812 : Index := Scalar.indexCast v458
  let c5888_998 : Index := 5888#32
  ![v3812.toNat, 5888]
def k0_off49 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3818 : Index := Scalar.indexCast v458
  let c6016_1000 : Index := 6016#32
  ![v3818.toNat, 6016]
def k0_off50 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3824 : Index := Scalar.indexCast v458
  let c6144_1002 : Index := 6144#32
  ![v3824.toNat, 6144]
def k0_off51 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3830 : Index := Scalar.indexCast v458
  let c6272_1004 : Index := 6272#32
  ![v3830.toNat, 6272]
def k0_off52 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3836 : Index := Scalar.indexCast v458
  let c6400_1006 : Index := 6400#32
  ![v3836.toNat, 6400]
def k0_off53 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3842 : Index := Scalar.indexCast v458
  let c6528_1008 : Index := 6528#32
  ![v3842.toNat, 6528]
def k0_off54 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3848 : Index := Scalar.indexCast v458
  let c6656_1010 : Index := 6656#32
  ![v3848.toNat, 6656]
def k0_off55 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3854 : Index := Scalar.indexCast v458
  let c6784_1012 : Index := 6784#32
  ![v3854.toNat, 6784]
def k0_off56 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3860 : Index := Scalar.indexCast v458
  let c6912_1014 : Index := 6912#32
  ![v3860.toNat, 6912]
def k0_off57 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3866 : Index := Scalar.indexCast v458
  let c7040_1016 : Index := 7040#32
  ![v3866.toNat, 7040]
def k0_off58 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3872 : Index := Scalar.indexCast v458
  let c7168_1018 : Index := 7168#32
  ![v3872.toNat, 7168]
def k0_off59 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3878 : Index := Scalar.indexCast v458
  let c7296_1020 : Index := 7296#32
  ![v3878.toNat, 7296]
def k0_off60 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3884 : Index := Scalar.indexCast v458
  let c7424_1022 : Index := 7424#32
  ![v3884.toNat, 7424]
def k0_off61 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3890 : Index := Scalar.indexCast v458
  let c7552_1024 : Index := 7552#32
  ![v3890.toNat, 7552]
def k0_off62 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3896 : Index := Scalar.indexCast v458
  let c7680_1026 : Index := 7680#32
  ![v3896.toNat, 7680]
def k0_off63 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3902 : Index := Scalar.indexCast v458
  let c7808_1028 : Index := 7808#32
  ![v3902.toNat, 7808]
def k0_off64 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3908 : Index := Scalar.indexCast v458
  let c7936_1030 : Index := 7936#32
  ![v3908.toNat, 7936]
def k0_off65 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3914 : Index := Scalar.indexCast v458
  let c8064_1032 : Index := 8064#32
  ![v3914.toNat, 8064]
def k0_off66 (k0_t1 : Fin k0_t1_loop.trips) : Fin 2 → Nat :=
  let c0_i32_134 : BitVec 32 := 0#32
  let c1_i32 : BitVec 32 := 1#32
  let arg9 : BitVec 32 := Scf.iv c0_i32_134 c1_i32 k0_t1
  let c64_i32 : BitVec 32 := 64#32
  let v457 : BitVec 32 := Scalar.muli arg9 c64_i32
  let v458 : BitVec 32 := v457
  let v3921 : Index := Scalar.indexCast v458
  let c0_1034 : Index := 0#32
  ![v3921.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x2048x8192 : Shape := ⟨3, ![8, 2048, 8192]⟩
abbrev S14336x8192 : Shape := ⟨2, ![14336, 8192]⟩
abbrev S14336x64 : Shape := ⟨2, ![14336, 64]⟩
abbrev S16384x8192 : Shape := ⟨2, ![16384, 8192]⟩
abbrev S16384x14336 : Shape := ⟨2, ![16384, 14336]⟩
abbrev S16384x64 : Shape := ⟨2, ![16384, 64]⟩
abbrev S16384x64x128 : Shape := ⟨3, ![16384, 64, 128]⟩
abbrev S16384x64x1 : Shape := ⟨3, ![16384, 64, 1]⟩
abbrev S14336x64x128 : Shape := ⟨3, ![14336, 64, 128]⟩
abbrev S14336x64x1 : Shape := ⟨3, ![14336, 64, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x8192, .bf16⟩
  | .hbm, ⟨1, _⟩ => ⟨S14336x8192, .fp8e4m3⟩
  | .hbm, ⟨2, _⟩ => ⟨S14336x64, .f32⟩
  | .hbm, ⟨3, _⟩ => ⟨S16384x8192, .bf16⟩
  | .hbm, ⟨4, _⟩ => ⟨S16384x14336, .bf16⟩
  | .hbm, ⟨5, _⟩ => ⟨S16384x8192, .fp8e4m3⟩
  | .hbm, ⟨6, _⟩ => ⟨S16384x64, .f32⟩
  | .local _ .vmem, ⟨0, _⟩ => ⟨S16384x8192, .bf16⟩
  | .local _ .vmem, ⟨1, _⟩ => ⟨S14336x8192, .fp8e4m3⟩
  | .local _ .vmem, ⟨2, _⟩ => ⟨S14336x64, .f32⟩
  | .local _ .vmem, ⟨3, _⟩ => ⟨S16384x14336, .bf16⟩
  | .local _ .vmem, ⟨4, _⟩ => ⟨S16384x8192, .fp8e4m3⟩
  | .local _ .vmem, ⟨5, _⟩ => ⟨S16384x64, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Group.lean ====
module

public import proofs.«01_k».proof.Proof.Gen.KernelIdeal.Loops

@[expose] public section

set_option maxRecDepth 16384

noncomputable section

/-! # One group of 128 columns of one chunk of 64 rows

What the kernel's quantiser computes from a chunk `v` of 64 rows, for the group `g` of 128 columns, as
one definition per array and for every `g` at once; and the statement that the pieces one trip of the
row loop stores are these arrays. -/

namespace Cert.KernelIdeal.Group

open Idealize.ShloMosaic Idealize.ShloMosaic.TcCoe Idealize.ShloMosaic.Tactic
open Idealize.SL Idealize.SL.RA Idealize.SL.BI
open Idealize.SL.Sem
open Cert.KernelIdeal Cert.KernelIdeal.Gen

variable {F : FTy → Type} [FloatOps F]

/-- The 128 columns of a group lie inside the 8192 of the chunk. -/
theorem slices (g : Fin 64) : S64x8192.Slices ![0, 128 * g.val] S64x128 := by
  revert g; decide +kernel

/-- The group's columns. -/
def cols (v : FVec F S64x8192 .bf16) (g : Fin 64) : FVec F S64x128 .bf16 :=
  extractStridedSlice S64x128 ![0, 128 * g.val] v (slices g)

/-- A row's largest magnitude over 448, as a column. -/
def ratio (v : FVec F S64x8192 .bf16) (g : Fin 64) : FVec F S64x1 .f32 :=
  mulf (shapeCast S64x1 (multiReduction .maximumf [1] S64 (absf (extf .f32 (cols v g) bitsLt_bf16_f32)) 0xFF800000#32 reduces_S64x128_S64 (.inl rfl) rfl) shapeCasts_S64_S64x1)
    (broadcast S64x1 (Scalar.ofBits .f32 0x3B124925#32 : F .f32))

/-- The 256 bit patterns of the powers of two, in every row. -/
def patterns : IVec S64x256 32 := shli (iota .tc S64x256 32 [1] iota_S64x256_d1_w32) (broadcast S64x256 23#32)

/-- The largest of the patterns whose value is at most the ratio. -/
def field (v : FVec F S64x8192 .bf16) (g : Fin 64) : IVec S64x1 32 :=
  shapeCast S64x1 (multiReductionI .maxsi [1] S64
    (select (cmpf .ole (bitcastToFloat .f32 patterns : FVec F S64x256 .f32) (broadcastTo S64x256 (ratio v g) broadcasts_S64x1_S64x256))
      patterns (broadcast S64x256 0#32)) 2147483648#32 reduces_S64x256_S64 rfl) shapeCasts_S64_S64x1

/-- Whether the field is zero. -/
def isZero (v : FVec F S64x8192 .bf16) (g : Fin 64) : IVec S64x1 1 :=
  cmpi .eq (field v g) (broadcast S64x1 0#32)

/-- The scale of each row, in every lane. -/
def scale (v : FVec F S64x8192 .bf16) (g : Fin 64) : FVec F S64x128 .f32 :=
  broadcastTo S64x128 (shapeCast S64x1 (bitcastToFloat .f32
    (select (isZero v g) (broadcast S64x1 1065353216#32) (addi (field v g) (broadcast S64x1 8388608#32)))) shapeCasts_S64x1_S64x1)
    broadcasts_S64x1_S64x128

/-- The inverse of the scale of each row, in every lane. -/
def inv (v : FVec F S64x8192 .bf16) (g : Fin 64) : FVec F S64x128 .f32 :=
  broadcastTo S64x128 (shapeCast S64x1 (bitcastToFloat .f32
    (select (isZero v g) (broadcast S64x1 1065353216#32) (subi (broadcast S64x1 2122317824#32) (field v g)))) shapeCasts_S64x1_S64x1)
    broadcasts_S64x1_S64x128

/-- The codes of the group. -/
def codes (v : FVec F S64x8192 .bf16) (g : Fin 64) : FVec F S64x128 .fp8e4m3 :=
  truncf .fp8e4m3
    (minimumf (broadcast S64x128 (Scalar.truncf .bf16 bitsLt_bf16_f32 (Scalar.ofBits .f32 0x43E00000#32 : F .f32)))
      (maximumf (broadcast S64x128 (Scalar.truncf .bf16 bitsLt_bf16_f32 (Scalar.ofBits .f32 0xC3E00000#32 : F .f32)))
        (mulf (cols v g) (truncf .bf16 (inv v g) bitsLt_bf16_f32)))) bitsLt_fp8e4m3_bf16

/-- The dequantised columns of the group. -/
def deq (v : FVec F S64x8192 .bf16) (g : Fin 64) : FVec F S64x128 .bf16 :=
  mulf (extf .bf16 (codes v g) bitsLt_fp8e4m3_bf16) (truncf .bf16 (scale v g) bitsLt_bf16_f32)

/-- The scales of all groups, group `g` in lane `g`, the other lanes zero: one selection per group. -/
def scales (v : FVec F S64x8192 .bf16) : FVec F S64x128 .f32 :=
  (List.finRange 64).foldl (fun s g =>
    select (cmpi .eq (iota .tc S64x128 32 [1] iota_S64x128_d1_w32) (broadcast S64x128 (BitVec.ofNat 32 g.val))) (scale v g) s)
    (broadcast S64x128 (Scalar.ofBits .f32 0x00000000#32 : F .f32))

/-- The first row of a trip's chunk. -/
def rowOff (k : Fin k0_t1_loop.trips) : ℕ := (Scalar.indexCast (Scalar.muli (Scf.iv 0#32 1#32 k) 64#32) : Index).toNat

theorem rowOff_eq (k : Fin k0_t1_loop.trips) : rowOff k = 64 * k.val := by
  revert k; decide +kernel

/-- The last row of a trip's chunk is a row of the block. -/
theorem rowOff_le (k : Fin k0_t1_loop.trips) : rowOff k + 64 ≤ 512 := by
  have := rowOff_eq k
  have hk : k.val < 8 := Nat.lt_of_lt_of_le k.isLt k0_t1_abs.2.1
  omega

/-- The rectangle a trip's group occupies in a 512 by 8192 buffer. -/
def rect (k : Fin k0_t1_loop.trips) (g : Fin 64) : Rect S512x8192 :=
  Rect.unit (s := S512x8192) ![rowOff k, 128 * g.val] S64x128.size (by
    have := rowOff_le k
    intro a; fin_cases a
    · show rowOff k + 64 ≤ 512; omega
    · show 128 * g.val + 128 ≤ 8192; omega)

/-- The rectangle a trip's scales occupy in a 512 by 64 buffer. -/
def rectS (k : Fin k0_t1_loop.trips) : Rect S512x64 :=
  Rect.unit (s := S512x64) ![rowOff k, 0] S64x64.size (by
    have := rowOff_le k
    intro a; fin_cases a
    · show rowOff k + 64 ≤ 512; omega
    · show 0 + 64 ≤ 64; omega)

/-- What a trip stores of a group's codes. -/
def pieceC (v : FVec F S64x8192 .bf16) (k : Fin k0_t1_loop.trips) (g : Fin 64) : View.Piece (Elt F) S512x8192 .fp8e4m3 :=
  ⟨rect k g, codes v g⟩

/-- What a trip stores of a group's dequantised columns. -/
def pieceD (v : FVec F S64x8192 .bf16) (k : Fin k0_t1_loop.trips) (g : Fin 64) : View.Piece (Elt F) S512x8192 .bf16 :=
  ⟨rect k g, shapeCast S64x128 (deq v g) shapeCasts_S64x128_S64x128⟩

/-- What a trip stores of the scales. -/
def pieceS (v : FVec F S64x8192 .bf16) (k : Fin k0_t1_loop.trips) : View.Piece (Elt F) S512x64 .f32 :=
  ⟨rectS k, extractStridedSlice S64x64 ![0, 0] (scales v) slices_S64x128_o0_0_S64x64⟩

/-- The rows a trip reads. -/
def loadRect (k : Fin k0_t1_loop.trips) : Rect S512x8192 :=
  Rect.unit (s := S512x8192) ![rowOff k, 0] S64x8192.size (by
    have := rowOff_le k
    intro a; fin_cases a
    · show rowOff k + 64 ≤ 512; omega
    · show 0 + 8192 ≤ 8192; omega)

/-- What a trip's load of the block of `x` reads. -/
def rawChunk (arg2 : Memref sig .tc .vmem S512x8192 .bf16) (X : BufTy.Contents (Elt F) arg2.view.ty) (k : Fin k0_t1_loop.trips) :
    Vec F S64x8192 .bf16 :=
  View.readAt (Elt F) arg2.view (loadRect k).toLoadRect X

/-- The chunk a trip reads from the block of `x`. -/
def chunk (arg2 : Memref sig .tc .vmem S512x8192 .bf16) (X : BufTy.Contents (Elt F) arg2.view.ty) (k : Fin k0_t1_loop.trips) :
    FVec F S64x8192 .bf16 :=
  shapeCast S64x8192 (rawChunk arg2 X k) shapeCasts_S64x8192_S64x8192

section
variable (𝒱 : Variants) (c : Dev nD) (bd : Option 𝒱.V) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S512x64 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (k0_h1 : k0_cond1 i = 1#1) (X_arg2 : BufTy.Contents (Elt F) arg2.view.ty) (k : Fin k0_t1_loop.trips)

/-- The pieces of codes one trip stores, last first. -/
theorem trip_codes : (trip_k0_t1 (F := F) 𝒱 c bd i arg2 harg2 arg3 harg3 arg4 harg4 arg5 harg5 arg6 harg6 arg7 harg7 arg8 harg8 k0_h1 X_arg2 k).1
    = (List.finRange 64).reverse.map (pieceC (chunk arg2 X_arg2 k) k) := by
  delta trip_k0_t1
  rfl

/-- The piece of scales one trip stores. -/
theorem trip_scales : (trip_k0_t1 (F := F) 𝒱 c bd i arg2 harg2 arg3 harg3 arg4 harg4 arg5 harg5 arg6 harg6 arg7 harg7 arg8 harg8 k0_h1 X_arg2 k).2.1
    = [pieceS (chunk arg2 X_arg2 k) k] := by
  delta trip_k0_t1
  rfl

/-- The dequantised pieces one trip stores, last first. -/
theorem trip_deq : (trip_k0_t1 (F := F) 𝒱 c bd i arg2 harg2 arg3 harg3 arg4 harg4 arg5 harg5 arg6 harg6 arg7 harg7 arg8 harg8 k0_h1 X_arg2 k).2.2.1
    = (List.finRange 64).reverse.map (pieceD (chunk arg2 X_arg2 k) k) := by
  delta trip_k0_t1
  rfl
end

end Cert.KernelIdeal.Group
end
-- ==== Proof.Blocks.lean ====
module

public import proofs.«01_k».proof.Proof.Group
public import Idealize.ShloMosaic.Lib.ValueIdx
public import Idealize.ShloMosaic.Lib.WholeRead

@[expose] public section

set_option maxRecDepth 16384

noncomputable section

/-! # What the row loop leaves in the three buffers

From a block `X` of 512 rows, the codes, the dequantised columns and the scales, index by index; and the
statement that after the eight trips of the row loop the three buffers read exactly these. -/

namespace Cert.KernelIdeal.Group

open Idealize.ShloMosaic Idealize.ShloMosaic.TcCoe Idealize.ShloMosaic.Tactic
open Idealize.ShloMosaic.ValueIdx
open Idealize.SL.Sem
open Cert.KernelIdeal Cert.KernelIdeal.Gen

variable {F : FTy → Type} [FloatOps F]

/-- The 64 rows from row `64 * q` on. -/
def rowsOf (X : Vec F S512x8192 .bf16) (q : Fin 8) : FVec F S64x8192 .bf16 :=
  fun j => X (ix2 ⟨64 * q.val + (j 0).val, by have := idx2_lt0 j; omega⟩ ⟨(j 1).val, idx2_lt1 j⟩)

/-- An array over the block from one array per chunk of 64 rows and group of 128 columns. -/
def tile {α : Type} (f : Fin 8 → Fin 64 → S64x128.Idx → α) : S512x8192.Idx → α := fun y =>
  f ⟨(y 0).val / 64, by have := idx2_lt0 y; omega⟩ ⟨(y 1).val / 128, by have := idx2_lt1 y; omega⟩
    (ix2 ⟨(y 0).val % 64, by omega⟩ ⟨(y 1).val % 128, by omega⟩)

/-- An array over the block's rows and groups from one array per chunk of 64 rows. -/
def tileS {α : Type} (f : Fin 8 → S64x128.Idx → α) : S512x64.Idx → α := fun y =>
  f ⟨(y 0).val / 64, by have := idx2_lt0 y; omega⟩
    (ix2 ⟨(y 0).val % 64, by omega⟩ ⟨(y 1).val, by have := idx2_lt1 y; omega⟩)

/-- The codes of a block. -/
def codesBlk (X : Vec F S512x8192 .bf16) : Vec F S512x8192 .fp8e4m3 := tile fun q g => codes (rowsOf X q) g

/-- The dequantised columns of a block. -/
def deqBlk (X : Vec F S512x8192 .bf16) : Vec F S512x8192 .bf16 := tile fun q g => deq (rowsOf X q) g

/-- The scales of a block. -/
def scaleBlk (X : Vec F S512x8192 .bf16) : Vec F S512x64 .f32 := tileS fun q => scales (rowsOf X q)

theorem trips_eq : k0_t1_loop.trips = 8 := by decide +kernel

/-- A trip as the number of its chunk. -/
def tripNo (k : Fin k0_t1_loop.trips) : Fin 8 := ⟨k.val, by have := k.isLt; have := trips_eq; omega⟩

/-- The chunk a trip reads is its 64 rows of the block. -/
theorem chunk_eq (arg2 : Memref sig .tc .vmem S512x8192 .bf16) (X : BufTy.Contents (Elt F) arg2.view.ty) (k : Fin k0_t1_loop.trips) :
    chunk arg2 X k = rowsOf (arg2.view.read (Elt F) X) (tripNo k) := by
  unfold chunk
  rw [shapeCast_self]
  funext j
  refine congrArg (View.read (Elt F) arg2.view X) ?_
  funext a
  apply Fin.ext
  have := rowOff_eq k
  match a with
  | ⟨0, _⟩ => show rowOff k + 1 * (j 0).val = 64 * k.val + (j 0).val; omega
  | ⟨1, _⟩ => show 0 + 1 * (j 1).val = (j 1).val; omega

/-- A tiled array at row `64 q + x₀`, column `128 g + x₁`. -/
theorem tile_apply {α : Type} (f : Fin 8 → Fin 64 → S64x128.Idx → α) (y : S512x8192.Idx) (q : Fin 8) (g : Fin 64) (x : S64x128.Idx)
    (h0 : (y 0).val = 64 * q.val + (x 0).val) (h1 : (y 1).val = 128 * g.val + (x 1).val) : tile f y = f q g x := by
  have key : ∀ q' g' x', q' = q → g' = g → x' = x → f q' g' x' = f q g x := by rintro _ _ _ rfl rfl rfl; rfl
  have b0 : (x 0).val < 64 := (x 0).isLt
  have b1 : (x 1).val < 128 := (x 1).isLt
  refine key _ _ _ (Fin.ext ?_) (Fin.ext ?_) (funext fun a => Fin.ext ?_)
  · show (y 0).val / 64 = q.val; omega
  · show (y 1).val / 128 = g.val; omega
  · match a with
    | ⟨0, _⟩ => show (y 0).val % 64 = (x 0).val; omega
    | ⟨1, _⟩ => show (y 1).val % 128 = (x 1).val; omega

/-- A tiled array of scales at row `64 q + x₀`, column `x₁`. -/
theorem tileS_apply {α : Type} (f : Fin 8 → S64x128.Idx → α) (y : S512x64.Idx) (q : Fin 8) (x : S64x128.Idx)
    (h0 : (y 0).val = 64 * q.val + (x 0).val) (h1 : (y 1).val = (x 1).val) : tileS f y = f q x := by
  have key : ∀ q' x', q' = q → x' = x → f q' x' = f q x := by rintro _ _ rfl rfl; rfl
  have b0 : (x 0).val < 64 := (x 0).isLt
  refine key _ _ (Fin.ext ?_) (funext fun a => Fin.ext ?_)
  · show (y 0).val / 64 = q.val; omega
  · match a with
    | ⟨0, _⟩ => show (y 0).val % 64 = (x 0).val; omega
    | ⟨1, _⟩ => show (y 1).val = (x 1).val; omega

/-- A tiled array at the place of an element of a trip's group. -/
theorem tile_emb {α : Type} (f : Fin 8 → Fin 64 → S64x128.Idx → α) (k : Fin k0_t1_loop.trips) (g : Fin 64) (x : S64x128.Idx) :
    tile f ((rect k g).emb x) = f (tripNo k) g x := by
  have hk := rowOff_eq k
  refine tile_apply f _ _ _ _ ?_ ?_
  · show rowOff k + 1 * (x 0).val = 64 * k.val + (x 0).val; omega
  · show 128 * g.val + 1 * (x 1).val = _; omega

/-- A tiled array of scales at the place of an element of a trip's scales. -/
theorem tileS_emb {α : Type} (f : Fin 8 → S64x128.Idx → α) (k : Fin k0_t1_loop.trips) (x : S64x64.Idx) :
    tileS f ((rectS k).emb x) = f (tripNo k) (ix2 ⟨(x 0).val, idx2_lt0 x⟩ ⟨(x 1).val, by have := idx2_lt1 x; omega⟩) := by
  have hk := rowOff_eq k
  refine tileS_apply f _ _ _ ?_ ?_
  · show rowOff k + 1 * (x 0).val = 64 * k.val + (x 0).val; omega
  · show 0 + 1 * (x 1).val = (x 1).val; omega

/-- A group's rectangle covers its rows and columns. -/
theorem mem_rect (k : Fin k0_t1_loop.trips) (g : Fin 64) (y : S512x8192.Idx) (h0 : (y 0).val / 64 = k.val) (h1 : (y 1).val / 128 = g.val) :
    y ∈ (rect k g).set := by
  unfold rect
  rw [Rect.mem_set_unit]
  have hk := rowOff_eq k
  intro a
  match a with
  | ⟨0, _⟩ => show rowOff k ≤ (y 0).val ∧ (y 0).val < rowOff k + 64; omega
  | ⟨1, _⟩ => show 128 * g.val ≤ (y 1).val ∧ (y 1).val < 128 * g.val + 128; omega

/-- A trip's rectangle of scales covers its rows. -/
theorem mem_rectS (k : Fin k0_t1_loop.trips) (y : S512x64.Idx) (h0 : (y 0).val / 64 = k.val) :
    y ∈ (rectS k).set := by
  unfold rectS
  rw [Rect.mem_set_unit]
  have hk := rowOff_eq k
  have := idx2_lt1 y
  intro a
  match a with
  | ⟨0, _⟩ => show rowOff k ≤ (y 0).val ∧ (y 0).val < rowOff k + 64; omega
  | ⟨1, _⟩ => show 0 ≤ (y 1).val ∧ (y 1).val < 0 + 64; omega

section
variable (arg2 : Memref sig .tc .vmem S512x8192 .bf16) (X : BufTy.Contents (Elt F) arg2.view.ty) (k : Fin k0_t1_loop.trips)

/-- A trip's codes of a group are the block's there. -/
theorem codes_agree (g : Fin 64) (x : S64x128.Idx) :
    codes (chunk arg2 X k) g x = codesBlk (arg2.view.read (Elt F) X) ((rect k g).emb x) := by
  rw [chunk_eq]; unfold codesBlk; rw [tile_emb]

/-- A trip's dequantised columns of a group are the block's there. -/
theorem deq_agree (g : Fin 64) (x : S64x128.Idx) :
    shapeCast S64x128 (deq (chunk arg2 X k) g) shapeCasts_S64x128_S64x128 x = deqBlk (arg2.view.read (Elt F) X) ((rect k g).emb x) := by
  rw [shapeCast_self, chunk_eq]; unfold deqBlk; rw [tile_emb]

/-- A trip's scales are the block's there. -/
theorem scales_agree (x : S64x64.Idx) :
    extractStridedSlice S64x64 ![0, 0] (scales (chunk arg2 X k)) slices_S64x128_o0_0_S64x64 x
      = scaleBlk (arg2.view.read (Elt F) X) ((rectS k).emb x) := by
  rw [chunk_eq]; unfold scaleBlk; rw [tileS_emb]
  refine extractStridedSlice_apply _ _ _ _ _ ?_
  intro a
  match a with
  | ⟨0, _⟩ => show (x 0).val = 0 + (x 0).val; omega
  | ⟨1, _⟩ => show (x 1).val = 0 + (x 1).val; omega
end

section
variable (𝒱 : Variants) (c : Dev nD) (bd : Option 𝒱.V) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S512x64 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (k0_h1 : k0_cond1 i = 1#1) (X : BufTy.Contents (Elt F) arg2.view.ty)

/-- The pieces the loop has stored before trip `n`. -/
abbrev stored (n : ℕ) := pb_k0_t1 (F := F) 𝒱 c bd i arg2 harg2 arg3 harg3 arg4 harg4 arg5 harg5 arg6 harg6 arg7 harg7 arg8 harg8 k0_h1 X n

/-- A piece of codes the loop has stored is a trip's, of some group. -/
theorem stored_codes (n : ℕ) (hn : n ≤ k0_t1_loop.trips) (p : View.Piece (Elt F) S512x8192 .fp8e4m3) :
    p ∈ (stored 𝒱 c bd i arg2 harg2 arg3 harg3 arg4 harg4 arg5 harg5 arg6 harg6 arg7 harg7 arg8 harg8 k0_h1 X n).1
      ↔ ∃ (k : Fin k0_t1_loop.trips) (g : Fin 64), k.val < n ∧ p = pieceC (chunk arg2 X k) k g := by
  induction n with
  | zero => simp [stored, pb_k0_t1]
  | succ n ih =>
    have := pb_k0_t1_succ (F := F) 𝒱 c bd i arg2 harg2 arg3 harg3 arg4 harg4 arg5 harg5 arg6 harg6 arg7 harg7 arg8 harg8 k0_h1 X ⟨n, hn⟩
    unfold stored at ih ⊢
    rw [this]
    simp only [List.mem_append, ih (by omega), tripL_k0_t1, trip_codes, List.mem_map, List.mem_reverse, List.mem_finRange, true_and]
    constructor
    · rintro (⟨g, rfl⟩ | ⟨k, g, hk, rfl⟩)
      · exact ⟨⟨n, hn⟩, g, Nat.lt_succ_self n, rfl⟩
      · exact ⟨k, g, by omega, rfl⟩
    · rintro ⟨k, g, hk, rfl⟩
      by_cases h : k.val = n
      · obtain rfl : k = ⟨n, hn⟩ := Fin.ext h
        exact .inl ⟨g, rfl⟩
      · exact .inr ⟨k, g, by omega, rfl⟩

/-- A dequantised piece the loop has stored is a trip's, of some group. -/
theorem stored_deq (n : ℕ) (hn : n ≤ k0_t1_loop.trips) (p : View.Piece (Elt F) S512x8192 .bf16) :
    p ∈ (stored 𝒱 c bd i arg2 harg2 arg3 harg3 arg4 harg4 arg5 harg5 arg6 harg6 arg7 harg7 arg8 harg8 k0_h1 X n).2.2
      ↔ ∃ (k : Fin k0_t1_loop.trips) (g : Fin 64), k.val < n ∧ p = pieceD (chunk arg2 X k) k g := by
  induction n with
  | zero => simp [stored, pb_k0_t1]
  | succ n ih =>
    have := pb_k0_t1_succ (F := F) 𝒱 c bd i arg2 harg2 arg3 harg3 arg4 harg4 arg5 harg5 arg6 harg6 arg7 harg7 arg8 harg8 k0_h1 X ⟨n, hn⟩
    unfold stored at ih ⊢
    rw [this]
    simp only [List.mem_append, ih (by omega), tripL_k0_t1, trip_deq, List.mem_map, List.mem_reverse, List.mem_finRange, true_and]
    constructor
    · rintro (⟨g, rfl⟩ | ⟨k, g, hk, rfl⟩)
      · exact ⟨⟨n, hn⟩, g, Nat.lt_succ_self n, rfl⟩
      · exact ⟨k, g, by omega, rfl⟩
    · rintro ⟨k, g, hk, rfl⟩
      by_cases h : k.val = n
      · obtain rfl : k = ⟨n, hn⟩ := Fin.ext h
        exact .inl ⟨g, rfl⟩
      · exact .inr ⟨k, g, by omega, rfl⟩

/-- A piece of scales the loop has stored is a trip's. -/
theorem stored_scales (n : ℕ) (hn : n ≤ k0_t1_loop.trips) (p : View.Piece (Elt F) S512x64 .f32) :
    p ∈ (stored 𝒱 c bd i arg2 harg2 arg3 harg3 arg4 harg4 arg5 harg5 arg6 harg6 arg7 harg7 arg8 harg8 k0_h1 X n).2.1
      ↔ ∃ (k : Fin k0_t1_loop.trips), k.val < n ∧ p = pieceS (chunk arg2 X k) k := by
  induction n with
  | zero => simp [stored, pb_k0_t1]
  | succ n ih =>
    have := pb_k0_t1_succ (F := F) 𝒱 c bd i arg2 harg2 arg3 harg3 arg4 harg4 arg5 harg5 arg6 harg6 arg7 harg7 arg8 harg8 k0_h1 X ⟨n, hn⟩
    unfold stored at ih ⊢
    rw [this]
    simp only [List.mem_append, ih (by omega), tripL_k0_t1, trip_scales, List.mem_singleton]
    constructor
    · rintro (rfl | ⟨k, hk, rfl⟩)
      · exact ⟨⟨n, hn⟩, Nat.lt_succ_self n, rfl⟩
      · exact ⟨k, by omega, rfl⟩
    · rintro ⟨k, hk, rfl⟩
      by_cases h : k.val = n
      · obtain rfl : k = ⟨n, hn⟩ := Fin.ext h
        exact .inl rfl
      · exact .inr ⟨k, by omega, rfl⟩

/-- After the loop the buffer of codes reads the block's codes. -/
theorem read_codes (G : BufTy.Contents (Elt F) arg6.view.ty) :
    arg6.view.read (Elt F) (arg6.view.writes (Elt F) G (stored 𝒱 c bd i arg2 harg2 arg3 harg3 arg4 harg4 arg5 harg5 arg6 harg6 arg7 harg7 arg8 harg8 k0_h1 X k0_t1_loop.trips).1)
      = codesBlk (arg2.view.read (Elt F) X) := by
  funext y
  refine View.read_writes_apply_of_pieces _ G _ _ ?_ y ?_
  · intro p hp
    obtain ⟨k, g, -, rfl⟩ := (stored_codes _ _ _ _ _ _ _ _ _ _ _ _ _ _ _ _ _ _ _ _ _ le_rfl p).mp hp
    exact codes_agree arg2 X k g
  · have h0 := idx2_lt0 y
    have h1 := idx2_lt1 y
    have ht := trips_eq
    refine ⟨_, (stored_codes _ _ _ _ _ _ _ _ _ _ _ _ _ _ _ _ _ _ _ _ _ le_rfl _).mpr ⟨⟨(y 0).val / 64, by omega⟩, ⟨(y 1).val / 128, by omega⟩, by show (y 0).val / 64 < _; omega, rfl⟩, ?_⟩
    exact mem_rect _ _ y rfl rfl

/-- After the loop the scratch reads the block's dequantised columns. -/
theorem read_deq (G : BufTy.Contents (Elt F) arg8.view.ty) :
    arg8.view.read (Elt F) (arg8.view.writes (Elt F) G (stored 𝒱 c bd i arg2 harg2 arg3 harg3 arg4 harg4 arg5 harg5 arg6 harg6 arg7 harg7 arg8 harg8 k0_h1 X k0_t1_loop.trips).2.2)
      = deqBlk (arg2.view.read (Elt F) X) := by
  funext y
  refine View.read_writes_apply_of_pieces _ G _ _ ?_ y ?_
  · intro p hp
    obtain ⟨k, g, -, rfl⟩ := (stored_deq _ _ _ _ _ _ _ _ _ _ _ _ _ _ _ _ _ _ _ _ _ le_rfl p).mp hp
    exact deq_agree arg2 X k g
  · have h0 := idx2_lt0 y
    have h1 := idx2_lt1 y
    have ht := trips_eq
    refine ⟨_, (stored_deq _ _ _ _ _ _ _ _ _ _ _ _ _ _ _ _ _ _ _ _ _ le_rfl _).mpr ⟨⟨(y 0).val / 64, by omega⟩, ⟨(y 1).val / 128, by omega⟩, by show (y 0).val / 64 < _; omega, rfl⟩, ?_⟩
    exact mem_rect _ _ y rfl rfl

/-- After the loop the buffer of scales reads the block's scales. -/
theorem read_scales (G : BufTy.Contents (Elt F) arg7.view.ty) :
    arg7.view.read (Elt F) (arg7.view.writes (Elt F) G (stored 𝒱 c bd i arg2 harg2 arg3 harg3 arg4 harg4 arg5 harg5 arg6 harg6 arg7 harg7 arg8 harg8 k0_h1 X k0_t1_loop.trips).2.1)
      = scaleBlk (arg2.view.read (Elt F) X) := by
  funext y
  refine View.read_writes_apply_of_pieces _ G _ _ ?_ y ?_
  · intro p hp
    obtain ⟨k, -, rfl⟩ := (stored_scales _ _ _ _ _ _ _ _ _ _ _ _ _ _ _ _ _ _ _ _ _ le_rfl p).mp hp
    exact scales_agree arg2 X k
  · have h0 := idx2_lt0 y
    have ht := trips_eq
    refine ⟨_, (stored_scales _ _ _ _ _ _ _ _ _ _ _ _ _ _ _ _ _ _ _ _ _ le_rfl _).mpr ⟨⟨(y 0).val / 64, by omega⟩, by show (y 0).val / 64 < _; omega, rfl⟩, ?_⟩
    exact mem_rectS _ y rfl
end

end Cert.KernelIdeal.Group
end
-- ==== Proof.Tile.lean ====
module

public import proofs.«01_k».proof.Proof.Blocks
public import Idealize.ShloMosaic.Lib.VecWindow

@[expose] public section

set_option maxRecDepth 16384

noncomputable section

/-! # The output tile of a grid point

A point multiplies the dequantised block of `x` with its block of `w`, which it dequantises group of columns by
group of columns. -/

namespace Cert.KernelIdeal.Group

open Idealize.ShloMosaic Idealize.ShloMosaic.TcCoe Idealize.ShloMosaic.Tactic
open Idealize.ShloMosaic.ValueIdx
open Idealize.SL.Sem
open Cert.KernelIdeal Cert.KernelIdeal.Gen

variable {F : FTy → Type} [FloatOps F]

/-- The 128 columns of group `g` of a block of `w`. -/
def wCols (x1 : Vec F S512x8192 .fp8e4m3) (g : Fin 64) : Vec F S512x128 .fp8e4m3 :=
  fun j => x1 (ix2 ⟨(j 0).val, idx2_lt0 j⟩ ⟨128 * g.val + (j 1).val, by have := idx2_lt1 j; omega⟩)

/-- The scales of group `g` of a block of `w`. -/
def wScale (x2 : Vec F S512x64 .f32) (g : Fin 64) : Vec F S512x1 .f32 :=
  fun j => x2 (ix2 ⟨(j 0).val, idx2_lt0 j⟩ g)

theorem concat_fact (f : Fin 64 → FVec F S512x128 .bf16) :
    Shape.Concatenates ((List.ofFn fun g : Fin 64 => (⟨S512x128, f g⟩ : (s : Shape) × (s.Idx → F .bf16))).map (·.1)) S512x8192 1 := by
  rw [List.map_ofFn]
  have : (List.ofFn ((fun x : (s : Shape) × (s.Idx → F .bf16) => x.1) ∘ fun g : Fin 64 => (⟨S512x128, f g⟩ : (s : Shape) × (s.Idx → F .bf16))))
      = List.ofFn fun _ : Fin 64 => S512x128 := rfl
  rw [this]
  decide +kernel

/-- A block of `w` from its 64 groups of columns. -/
def wJoin (f : Fin 64 → FVec F S512x128 .bf16) : FVec F S512x8192 .bf16 :=
  concatenate S512x8192 1 (List.ofFn fun g : Fin 64 => ⟨S512x128, f g⟩) (concat_fact f)

/-- The product of a block of `x` with the block of `w` joined from its groups, rounded. -/
def product (xd : FVec F S512x8192 .bf16) (f : Fin 64 → FVec F S512x128 .bf16) : FVec F S512x512 .bf16 :=
  truncf .bf16 (matmul dot_S512x8192_S512x8192_S512x512_1_1_0_0_n_n none xd (wJoin f) (constant S512x512 .f32 0x00000000#32)) bitsLt_bf16_f32

/-- The output tile: the product of the dequantised block of `x` with the dequantised block of `w`. -/
def yTile (xd : FVec F S512x8192 .bf16) (x1 : Vec F S512x8192 .fp8e4m3) (x2 : Vec F S512x64 .f32) : FVec F S512x512 .bf16 :=
  product xd fun g => k0_pay599 (wScale x2 g) (wCols x1 g)

theorem inbW (g : Fin 64) : ∀ a, (![0, 128 * g.val] : Fin 2 → Nat) a + S512x128.size a ≤ S512x8192.size a := by
  have := g.isLt
  intro a
  match a with
  | ⟨0, _⟩ => show 0 + 512 ≤ 512; omega
  | ⟨1, _⟩ => show 128 * g.val + 128 ≤ 8192; omega

theorem inbWS (g : Fin 64) : ∀ a, (![0, g.val] : Fin 2 → Nat) a + S512x1.size a ≤ S512x64.size a := by
  have := g.isLt
  intro a
  match a with
  | ⟨0, _⟩ => show 0 + 512 ≤ 512; omega
  | ⟨1, _⟩ => show g.val + 1 ≤ 64; omega

/-- The rectangle of group `g`'s columns in a block of `w`. -/
def rectW (g : Fin 64) : Rect S512x8192 := Rect.unit (s := S512x8192) ![0, 128 * g.val] S512x128.size (inbW g)

/-- The rectangle of group `g`'s scales in a block of scales of `w`. -/
def rectWS (g : Fin 64) : Rect S512x64 := Rect.unit (s := S512x64) ![0, g.val] S512x1.size (inbWS g)

/-- What loading group `g`'s columns of the block of `w` gives. -/
def loadW (arg3 : Memref sig .tc .vmem S512x8192 .fp8e4m3) (X : BufTy.Contents (Elt F) arg3.view.ty) (g : Fin 64) : Vec F S512x128 .fp8e4m3 :=
  View.readAt (Elt F) arg3.view (rectW g).toLoadRect X

/-- What loading group `g`'s scales of the block of `w` gives. -/
def loadWS (arg4 : Memref sig .tc .vmem S512x64 .f32) (X : BufTy.Contents (Elt F) arg4.view.ty) (g : Fin 64) : Vec F S512x1 .f32 :=
  View.readAt (Elt F) arg4.view (rectWS g).toLoadRect X

theorem loadW_eq (arg3 : Memref sig .tc .vmem S512x8192 .fp8e4m3) (X : BufTy.Contents (Elt F) arg3.view.ty) (g : Fin 64) :
    loadW arg3 X g = wCols (arg3.view.read (Elt F) X) g := by
  funext j
  refine congrArg (View.read (Elt F) arg3.view X) ?_
  funext a
  apply Fin.ext
  match a with
  | ⟨0, _⟩ => show 0 + 1 * (j 0).val = (j 0).val; omega
  | ⟨1, _⟩ => show 128 * g.val + 1 * (j 1).val = 128 * g.val + (j 1).val; omega

theorem loadWS_eq (arg4 : Memref sig .tc .vmem S512x64 .f32) (X : BufTy.Contents (Elt F) arg4.view.ty) (g : Fin 64) :
    loadWS arg4 X g = wScale (arg4.view.read (Elt F) X) g := by
  funext j
  refine congrArg (View.read (Elt F) arg4.view X) ?_
  funext a
  apply Fin.ext
  have := idx2_lt1 j
  match a with
  | ⟨0, _⟩ => show 0 + 1 * (j 0).val = (j 0).val; omega
  | ⟨1, _⟩ => show g.val + 1 * (j 1).val = g.val; omega

/-- What loading the whole scratch gives. -/
def loadXd (arg8 : Memref sig .tc .vmem S512x8192 .bf16) (X : BufTy.Contents (Elt F) arg8.view.ty) : Vec F S512x8192 .bf16 :=
  View.readAt (Elt F) arg8.view (Rect.unit (s := S512x8192) ![0, 0] S512x8192.size inb_S512x8192_S512x8192_0_0).toLoadRect X

theorem loadXd_eq (arg8 : Memref sig .tc .vmem S512x8192 .bf16) (X : BufTy.Contents (Elt F) arg8.view.ty) :
    loadXd arg8 X = arg8.view.read (Elt F) X :=
  View.readAt_full _ _ _

/-- The tile from the loads of the block of `w` and its scales. -/
theorem product_loads (arg3 : Memref sig .tc .vmem S512x8192 .fp8e4m3) (X3 : BufTy.Contents (Elt F) arg3.view.ty)
    (arg4 : Memref sig .tc .vmem S512x64 .f32) (X4 : BufTy.Contents (Elt F) arg4.view.ty)
    (arg8 : Memref sig .tc .vmem S512x8192 .bf16) (X8 : BufTy.Contents (Elt F) arg8.view.ty) :
    product (loadXd arg8 X8) (fun g => k0_pay599 (loadWS arg4 X4 g) (loadW arg3 X3 g))
      = yTile (arg8.view.read (Elt F) X8) (arg3.view.read (Elt F) X3) (arg4.view.read (Elt F) X4) := by
  rw [loadXd_eq]
  unfold yTile
  congr 1
  funext g
  rw [loadW_eq, loadWS_eq]

end Cert.KernelIdeal.Group
end
-- ==== Proof.RunBase.lean ====
/- The branch condition of the kernel body over the grid, the staging buffers and the scratch of a point. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Frame
public import proofs.«01_k».proof.Proof.Blocks
public import proofs.«01_k».proof.Proof.Tile
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 28) — by arithmetic of the point. -/
theorem hcond0_0 : ∀ t : Fin cfg0.N, cond0_0 (grid0.coords t) ↔ t.val % 28 = 0 :=
  (fun t => by
    have ht : t.val < 896 := Nat.lt_of_lt_of_eq t.isLt N_0
    have e0 : (grid0.coords t 0).val = t.val / 28 % 32 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x8192 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.RunLater.lean ====
module

public import proofs.«01_k».proof.Proof.RunBase

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a point that is not the first of its row of tiles: the inputs and the scratch stay, the codes and the
    scales are not touched, the tile is the product of the scratch with the dequantised block of `w`. -/
theorem run_later (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S512x64 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (hc0 : ¬cond0_0 i)
    (x0 : Vec F S512x8192 .bf16) (x1 : Vec F S512x8192 .fp8e4m3) (x2 : Vec F S512x64 .f32) (d8 : Vec F S512x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg8 fullShare d8
            ∗ (iprop(owns (c : Thread nD τ) arg2 fullShare x0 ∗ owns (c : Thread nD τ) arg3 fullShare x1 ∗ owns (c : Thread nD τ) arg4 fullShare x2 ∗ owns (c : Thread nD τ) arg5 fullShare (Group.yTile d8 x1 x2) ∗ owns (c : Thread nD τ) arg8 fullShare d8) -∗ K ⟨⟩))
          ⊢ wp frame (wpE (defs₀ (F := F)) Variants.none c none) E (cc0_fp8_linear i arg2 harg2 arg3 harg3 arg4 harg4 arg5 harg5 arg6 harg6 arg7 harg7 arg8 harg8) K := by
    intro E K
    simp only [cc0_fp8_linear_eq_skeleton]; unfold cc0_fp8_linear_skel
    simp only [k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full _ _ _ _ _).trans ?_
      refine Eq.trans (b := Group.product (Group.loadXd arg8 (harg8.unread d8)) (fun g => k0_pay599 (Group.loadWS arg4 (harg4.unread x2) g) (Group.loadW arg3 (harg3.unread x1) g))) ?_ ?_
      · sl_unfold_run_names
        rfl
      · rw [Group.product_loads, hf1, hf2, hfs0]
    iexists _; isplitr; · ipureintro; exact harg8.read_unread _
    iexact HS0

end Cert.KernelIdeal.Gen

end
-- ==== Proof.RunFirst.lean ====
module

public import proofs.«01_k».proof.Proof.RunLater

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at the first point of a row of tiles: the codes, the scales and the scratch are the block's, the tile is the
    product of the scratch with the dequantised block of `w`. -/
theorem run_first (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S512x64 .f32) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (hc0 : cond0_0 i)
    (x0 : Vec F S512x8192 .bf16) (x1 : Vec F S512x8192 .fp8e4m3) (x2 : Vec F S512x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare (Group.yTile (Group.deqBlk x0) x1 x2) ∗ owns (c : Thread nD τ) arg6 fullShare (Group.codesBlk x0) ∗ owns (c : Thread nD τ) arg7 fullShare (Group.scaleBlk x0) ∗ owns (c : Thread nD τ) arg8 fullShare (Group.deqBlk x0)) -∗ K ⟨⟩))
          ⊢ wp frame (wpE (defs₀ (F := F)) Variants.none c none) E (cc0_fp8_linear i arg2 harg2 arg3 harg3 arg4 harg4 arg5 harg5 arg6 harg6 arg7 harg7 arg8 harg8) K := by
    intro E K
    simp only [cc0_fp8_linear_eq_skeleton]; unfold cc0_fp8_linear_skel
    simp only [k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full _ _ _ _ _).trans ?_
      refine Eq.trans (b := Group.product (Group.loadXd arg8 (arg8.view.writes (Elt F) fs0 (Group.stored Variants.none c none i arg2 harg2 arg3 harg3 arg4 harg4 arg5 harg5 arg6 harg6 arg7 harg7 arg8 harg8 hc0 (harg2.unread x0) k0_t1_loop.trips).2.2)) (fun g => k0_pay599 (Group.loadWS arg4 (harg4.unread x2) g) (Group.loadW arg3 (harg3.unread x1) g))) ?_ ?_
      · sl_unfold_run_names
        rfl
      · rw [Group.product_loads, hf1, hf2, Group.read_deq, hf0]
    isplitl [H4]
    · iexists _; isplitr; swap; · iexact H4
      ipureintro
      exact (Group.read_codes _ _ _ _ _ _ _ _ _ _ _ _ _ _ _ _ _ _ _ _ _).trans (congrArg _ hf0)
    isplitl [H5]
    · iexists _; isplitr; swap; · iexact H5
      ipureintro
      exact (Group.read_scales _ _ _ _ _ _ _ _ _ _ _ _ _ _ _ _ _ _ _ _ _).trans (congrArg _ hf0)
    iexists _; isplitr; swap; · iexact HS0
    ipureintro
    exact (Group.read_deq _ _ _ _ _ _ _ _ _ _ _ _ _ _ _ _ _ _ _ _ _).trans (congrArg _ hf0)

end Cert.KernelIdeal.Gen

end
-- ==== Proof.Region.lean ====
module

public import proofs.«01_k».proof.Proof.RunFirst
public import Idealize.ShloMosaic.Lib.Pipeline.ValueKit
public import Idealize.ShloMosaic.Lib.ValueIdx

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The region: what every grid point leaves, and what the arrays hold at the end -/

/-- The block indices of the six windows at a point: row of tiles `t / 28`, column of tiles `t % 28`. -/
theorem index_eq : ∀ t : Fin cfg0.N, (win0_0.index t 0 = t.val / 28 ∧ win0_0.index t 1 = 0) ∧ (win0_1.index t 0 = t.val % 28 ∧ win0_1.index t 1 = 0)
    ∧ (win0_2.index t 0 = t.val % 28 ∧ win0_2.index t 1 = 0) ∧ (win0_3.index t 0 = t.val / 28 ∧ win0_3.index t 1 = t.val % 28)
    ∧ (win0_4.index t 0 = t.val / 28 ∧ win0_4.index t 1 = 0) ∧ (win0_5.index t 0 = t.val / 28 ∧ win0_5.index t 1 = 0) :=
  (by decide +kernel : ∀ t : Fin grid0.N, _)

/-- The block of `x` at a point, index by index. -/
theorem iblk0_apply (c : Dev nD) (t : Fin cfg0.N) (y : S512x8192.Idx) :
    iblk m c 0 t y = (V m c main_v0 : S16384x8192.Idx → Elt F .bf16) (ValueIdx.ix2 ⟨512 * (t.val / 28) + (y 0).val, by
      have := idx2_lt0 y; have : t.val < 896 := lt_of_lt_of_eq t.isLt (show cfg0.N = 896 from N_0); omega⟩ ⟨(y 1).val, idx2_lt1 y⟩) := by
  blk_ext [iblk, index_eq t]

/-- The block of `w` at a point, index by index. -/
theorem iblk1_apply (c : Dev nD) (t : Fin cfg0.N) (y : S512x8192.Idx) :
    iblk m c 1 t y = (V m c main_arg1 : S14336x8192.Idx → Elt F .fp8e4m3) (ValueIdx.ix2 ⟨512 * (t.val % 28) + (y 0).val, by
      have := idx2_lt0 y; omega⟩ ⟨(y 1).val, idx2_lt1 y⟩) := by
  blk_ext [iblk, index_eq t]

/-- The block of the scales of `w` at a point, index by index. -/
theorem iblk2_apply (c : Dev nD) (t : Fin cfg0.N) (y : S512x64.Idx) :
    iblk m c 2 t y = (V m c main_arg2 : S14336x64.Idx → Elt F .f32) (ValueIdx.ix2 ⟨512 * (t.val % 28) + (y 0).val, by
      have := idx2_lt0 y; omega⟩ ⟨(y 1).val, idx2_lt1 y⟩) := by
  blk_ext [iblk, index_eq t]

/-- Points of one row of tiles have one block of `x`. -/
theorem iblk0_same (c : Dev nD) (t u : Fin cfg0.N) (h : t.val / 28 = u.val / 28) : iblk m c 0 t = iblk m c 0 u := by
  funext y
  refine (iblk0_apply m c t y).trans (Eq.trans ?_ (iblk0_apply m c u y).symm)
  simp only [h]

/-- What the scratch holds before point `n`: the dequantised block of the point before, if that is in the same row. -/
def carried (c : Dev nD) (n : ℕ) (d : Vec F S512x8192 .bf16) : Prop :=
  n % 28 ≠ 0 → ∀ h : n - 1 < cfg0.N, d = Group.deqBlk (iblk m c 0 ⟨n - 1, h⟩)

/-- The proof data of the pipeline: after the body at point `t` each input's buffer at its block, the three outputs at
    the tile, the codes and the scales of the point; between points the scratch as `carried` states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Group.yTile (Group.deqBlk (iblk m c 0 t)) (iblk m c 1 t) (iblk m c 2 t)
    | ⟨4, _⟩ => Group.codesBlk (iblk m c 0 t)
    | ⟨5, _⟩ => Group.scaleBlk (iblk m c 0 t)
  Φ t := iprop((∃ d, owns (c : Thread nD τ) scM0_0 fullShare d ∗ ⌜carried m c t.val d⌝) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = Group.yTile (Group.deqBlk (iblk m c 0 t)) (iblk m c 1 t) (iblk m c 2 t) := by dsimp only [dats]
theorem after0_4 (c : Dev nD) (t : Fin cfg0.N) : (dats m 0 c).after 4 t = Group.codesBlk (iblk m c 0 t) := by dsimp only [dats]
theorem after0_5 (c : Dev nD) (t : Fin cfg0.N) : (dats m 0 c).after 5 t = Group.scaleBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The outputs a row of tiles shares are stored at its first point only. -/
theorem idle0_4 (t : Fin cfg0.N) : cfg0.idle 4 (cfg0.grid.coords t) = !decide (t.val % 28 = 0) := by
  show (!(k0_cond1 (grid0.coords t) == 1#1)) = _
  have := hcond0_0 t
  by_cases h : t.val % 28 = 0
  · simp [h, this.mpr h]
  · have h1 : ¬ k0_cond1 (grid0.coords t) = 1#1 := fun h' => h (this.mp h')
    simp [h, h1]

theorem idle0_5 (t : Fin cfg0.N) : cfg0.idle 5 (cfg0.grid.coords t) = !decide (t.val % 28 = 0) := idle0_4 t

/-- An output stored at the first point of a row of tiles, and written back at its last, is found at every later point
    as the first left it. -/
theorem before_row (c : Dev nD) (w : Fin cfg0.W) (hw : (cfg0.win w).isOut = true)
    (hidle : ∀ t : Fin cfg0.N, cfg0.idle w (cfg0.grid.coords t) = !decide (t.val % 28 = 0))
    (hfl : ∀ t : Fin cfg0.N, (cfg0.win w).flush t = true ↔ t.val % 28 = 27)
    (hclip : ∀ (i : cfg0.grid.Coords) a, (cfg0.win w).clip i a = none)
    (hsame : ∀ t u : Fin cfg0.N, t.val / 28 = u.val / 28 → (dats m 0 c).after w t = (dats m 0 c).after w u) :
    ∀ (n : ℕ) (hn : n < cfg0.N), ¬ n % 28 = 0 → ∀ d, (dats m 0 c).before w ⟨n, hn⟩ d = (dats m 0 c).after w ⟨n, hn⟩ := by
  intro n
  induction n with
  | zero => intro _ h; exact absurd rfl h
  | succ n ih =>
    intro hn h0 d
    have hn' : n < cfg0.N := by omega
    have hf : (cfg0.win w).flush ⟨n, hn'⟩ = false := Bool.eq_false_iff.mpr fun h => by
      have := (hfl _).mp h; dsimp only at this; omega
    refine ((dats m 0 c).before_of_pos w ⟨n + 1, hn⟩ (Nat.succ_ne_zero n) ((cfg0.win w).fetch_out hw _) d).trans ?_
    show (if (cfg0.win w).flush ⟨n, hn'⟩ = true then d else (dats m 0 c).left w ⟨n, hn'⟩ d) = _
    rw [hf, if_neg Bool.false_ne_true]
    unfold Dat.left
    rw [hidle]
    by_cases h : n % 28 = 0
    · simp only [h, decide_true, Bool.not_true]
      unfold Dat.kept
      rw [Pipeline.fill_of_clip_none w _ (hclip _) d ((dats m 0 c).after w _), Pipeline.Window.fill_cut]
      exact hsame _ _ (by dsimp only; omega)
    · simp only [h, decide_false, Bool.not_false]
      rw [ih hn' h]
      exact hsame _ _ (by dsimp only; omega)

/-- So what it holds after the body is what the row's first point left, wherever in the row. -/
theorem leaves_row (c : Dev nD) (w : Fin cfg0.W)
    (hb : ∀ t : Fin cfg0.N, ¬ t.val % 28 = 0 → ∀ d, (dats m 0 c).before w t d = (dats m 0 c).after w t)
    (hidle : ∀ t : Fin cfg0.N, cfg0.idle w (cfg0.grid.coords t) = !decide (t.val % 28 = 0)) (t : Fin cfg0.N) :
    owns (c : Thread nD τ) ((cfg0.win w).stage (cfg0.slots t w)) fullShare ((dats m 0 c).after w t) ⊢ ((dats m 0 c).leavesExact w t : sProp 𝕄) := by
  by_cases h : t.val % 28 = 0
  · have hi : cfg0.idle w (cfg0.grid.coords t) = false := by rw [hidle, h]; rfl
    unfold Dat.leavesExact
    rw [hi]
  · have hi : cfg0.idle w (cfg0.grid.coords t) = true := by rw [hidle]; simp [h]
    cases hf : (cfg0.win w).flush t
    · rw [Dat.leavesExact_idle _ w t hi hf]
      iintro H
      iexists ((dats m 0 c).after w t)
      rw [hb t h]
      iexact H
    · unfold Dat.leavesExact
      rw [hi, hf]

theorem before0_4 (c : Dev nD) (t : Fin cfg0.N) (h0 : ¬ t.val % 28 = 0) (d) : (dats m 0 c).before 4 t d = (dats m 0 c).after 4 t :=
  before_row m c 4 rfl idle0_4 flush0_4 (fun _ _ => rfl) (fun t u h => by
    rw [after0_4, after0_4]; exact congrArg _ (iblk0_same m c _ _ h)) t.val t.isLt h0 d

theorem before0_5 (c : Dev nD) (t : Fin cfg0.N) (h0 : ¬ t.val % 28 = 0) (d) : (dats m 0 c).before 5 t d = (dats m 0 c).after 5 t :=
  before_row m c 5 rfl idle0_5 flush0_5 (fun _ _ => rfl) (fun t u h => by
    rw [after0_5, after0_5]; exact congrArg _ (iblk0_same m c _ _ h)) t.val t.isLt h0 d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = iprop((∃ d, owns (c : Thread nD τ) scM0_0 fullShare d ∗ ⌜carried m c t.val d⌝) ∗ (∃ r, prngReg c r)) from rfl,
    show (dats m 0 c).Φ t.succ = iprop((∃ d, owns (c : Thread nD τ) scM0_0 fullShare d ∗ ⌜carried m c (t.val + 1) d⌝) ∗ (∃ r, prngReg c r)) from rfl]
  rw [show (dats m 0 c).leavesExact 0 t = owns (c : Thread nD τ) (ms0_0 t) fullShare ((dats m 0 c).after 0 t) from rfl, after0_0,
    show (dats m 0 c).leavesExact 1 t = owns (c : Thread nD τ) (ms0_1 t) fullShare ((dats m 0 c).after 1 t) from rfl, after0_1,
    show (dats m 0 c).leavesExact 2 t = owns (c : Thread nD τ) (ms0_2 t) fullShare ((dats m 0 c).after 2 t) from rfl, after0_2,
    show (dats m 0 c).leavesExact 3 t = owns (c : Thread nD τ) (ms0_3 t) fullShare ((dats m 0 c).after 3 t) from rfl, after0_3]
  have h4 := leaves_row m c 4 (before0_4 m c) idle0_4 t
  have h5 := leaves_row m c 5 (before0_5 m c) idle0_5 t
  rw [after0_4] at h4
  rw [after0_5] at h5
  by_cases h0 : t.val % 28 = 0
  · iintro ⟨⟨⟨%ds, HS0, -⟩, Hg⟩, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    iintro ⟨H0, H1, H2, H3, H4, H5, HS0⟩
    isplitl [HS0 Hg]
    · isplitl [HS0]
      · iexists _; isplitl; · iexact HS0
        ipureintro
        intro _ _
        rfl
      iexact Hg
    isplitl [Ho]; · iexact Ho
    isplitl [H0]; · iexact H0
    isplitl [H1]; · iexact H1
    isplitl [H2]; · iexact H2
    isplitl [H3]; · iexact H3
    isplitl [H4]; · iapply h4; iexact H4
    iapply h5; iexact H5
  · simp only [before0_4 m c t h0, before0_5 m c t h0, after0_4, after0_5]
    iintro ⟨⟨⟨%ds, HS0, %hd⟩, Hg⟩, Ho, ⟨%d0, H0⟩, ⟨%d1, H1⟩, ⟨%d2, H2⟩, ⟨%d3, H3⟩, ⟨%d4, H4⟩, ⟨%d5, H5⟩⟩
    obtain rfl : ds = Group.deqBlk (iblk m c 0 t) := (hd h0 (by have := t.isLt; omega)).trans
      (congrArg _ (iblk0_same m c _ _ (by dsimp only; omega)))
    iapply ((run_later c (grid0.coords t) _ _ _ _ _ _ _ _ _ _ _ (hs0_5 t) _ _ (fun h => h0 ((hcond0_0 t).mp h)) (iblk m c 0 t) (iblk m c 1 t) (iblk m c 2 t) (Group.deqBlk (iblk m c 0 t))) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]
      · iexists _; isplitl; · iexact HS0
        ipureintro
        intro _ _
        rfl
      iexact Hg
    isplitl [Ho]; · iexact Ho
    isplitl [H0]; · iexact H0
    isplitl [H1]; · iexact H1
    isplitl [H2]; · iexact H2
    isplitl [H3]; · iexact H3
    isplitl [H4]; · iapply h4; iexact H4
    iapply h5; iexact H5

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats m 0 c).Φ 0 := by
  rw [PhiA0_eq]
  show _ ⊢ iprop((∃ d, owns (c : Thread nD τ) scM0_0 fullShare d ∗ ⌜carried m c 0 d⌝) ∗ (∃ r, prngReg c r))
  iintro ⟨⟨%d, HS⟩, Hg⟩
  isplitl [HS]
  · iexists _; isplitl; · iexact HS
    ipureintro
    intro h; exact absurd rfl h
  iexact Hg

theorem phi_out (c : Dev nD) : (dats m 0 c).Φ (Fin.last cfg0.N) ⊢ (Pipeline.ΦA spec0 c : sProp 𝕄) := by
  rw [PhiA0_eq]
  show iprop((∃ d, owns (c : Thread nD τ) scM0_0 fullShare d ∗ ⌜carried m c (Fin.last cfg0.N).val d⌝) ∗ (∃ r, prngReg c r)) ⊢ _
  iintro ⟨⟨%d, HS, -⟩, Hg⟩
  isplitl [HS]
  · iexists _; iexact HS
  iexact Hg

set_option backward.isDefEq.respectTransparency.types false in
/-- The launch: every execution ends, each window's array as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)
    (Q' := _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelFrame.lean ====
module

public import proofs.«01_k».proof.Proof.Region
public import proofs.«01_k».proof.Kernel
public import proofs.«01_k».proof.Proof.Gen.Kernel

@[expose] public section

set_option maxRecDepth 65536

noncomputable section

/-! # The kernel's frame

The idealization rewrote nothing, so the kernel's program and its idealization's are one text, printed in two
namespaces; the frame of the latter, proved for any reading of the floats, is the frame of the former. -/

namespace Cert.Kernel.Gen

open Idealize.ShloMosaic Idealize.SL.Sem

variable {F : FTy → Type} [FloatOps F]

/-- The two kernel functions are one program. -/
theorem body_eq :
    @cc0_fp8_linear F _ Cert.Kernel.Gen.facts = @Cert.KernelIdeal.cc0_fp8_linear F _ Cert.KernelIdeal.Gen.facts := rfl

/-- The kernels' tables have one label, at which they run that program. -/
theorem defs₀_eq : defs₀ (F := F) = Cert.KernelIdeal.defs₀ (F := F) := by
  refine congrArg Defs.onTc (funext fun ℓ => funext fun a => ?_)
  obtain rfl : ℓ = (0 : Fin 1) := Subsingleton.elim _ _
  rfl

theorem defs_eq : defs (F := F) = Cert.KernelIdeal.defs (F := F) :=
  congrArg (Pipeline.defs Cert.KernelIdeal.pcfgs) defs₀_eq

theorem main_eq : main (F := F) = Cert.KernelIdeal.main (F := F) := rfl

/-- Every weak fair execution from quiescence ends quiescent with the arguments as they were. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := Cert.KernelIdeal.Gen.frame (F := F) m ρ
  rw [← defs_eq, ← main_eq] at h
  exact h

end Cert.Kernel.Gen
end
-- ==== Proof.Exponent.lean ====
module

public import Idealize.ShloMosaic.PureOps.Ideal.Laws
public import Idealize.ShloMosaic.Lib.IdealHost
public import Idealize.ShloMosaic.Lib.SortNet.Extract
public import Mathlib.Analysis.SpecialFunctions.Pow.Real

@[expose] public section

noncomputable section

/-! # The power-of-two scale of a number, two ways

The kernel finds the scale of `t` from the exponent field of an f32 pattern: the largest of the 256
patterns of powers of two whose value is at most `t`. The reference takes `2 ^ (⌊log₂ t⌋ + 1)`. For
`0 ≤ t < 2 ^ 126` both give the same scale and the same inverse of it. -/

namespace Cert.Exponent

open Idealize.ShloMosaic

/-- The f32 pattern with exponent field `e` and every other bit zero. -/
def pattern (e : Fin 256) : BitVec 32 := BitVec.ofNat 32 (e.val * 8388608)

theorem pattern_bits (e : Fin 256) : (pattern e).extractLsb' 31 1 = 0#1 ∧ ((pattern e).extractLsb' 23 8).toNat = e.val
    ∧ ((pattern e).extractLsb' 0 23).toNat = 0 := by
  revert e; decide +kernel

theorem pattern_toInt (e : Fin 256) : (pattern e).toInt = (e.val : ℤ) * 8388608 := by
  revert e; decide +kernel

/-- What the pattern denotes. -/
def value (e : Fin 256) : EReal := Ideal.ofBits .f32 (pattern e)

theorem value_zero (e : Fin 256) (h : e.val = 0) : value e = 0 := by
  obtain ⟨h1, h2, h3⟩ := pattern_bits e
  simp [value, Ideal.ofBits, Ideal.ieee, h1, h2, h3, h]

/-- A field from 1 to 254 denotes the power `2 ^ (e - 127)`. -/
theorem value_pow (e : Fin 256) (h1 : 1 ≤ e.val) (h2 : e.val ≤ 254) :
    value e = (((2 : ℝ) ^ ((e.val : ℤ) - 127) : ℝ) : EReal) := by
  obtain ⟨b1, b2, b3⟩ := pattern_bits e
  have n0 : e.val ≠ 0 := by omega
  have n255 : e.val ≠ 255 := by omega
  unfold value Ideal.ofBits Ideal.ieee
  simp only [b1, b2, b3, Nat.reduceAdd, Nat.reducePow, Nat.reduceSub, n0, n255, if_false]
  congr 1
  have : ((e.val : ℤ) - 127) = 23 + ((e.val : ℤ) - (2 ^ 7 - 1) - 23) := by ring
  rw [this, zpow_add₀ (by norm_num : (2 : ℝ) ≠ 0)]
  norm_num

theorem value_top (e : Fin 256) (h : e.val = 255) : value e = ⊤ := by
  obtain ⟨h1, h2, h3⟩ := pattern_bits e
  simp [value, Ideal.ofBits, Ideal.ieee, h1, h2, h3, h]

/-- The largest of the patterns whose value is at most `t`. -/
def field (t : EReal) : BitVec 32 :=
  (Finset.univ : Finset (Fin 256)).fold IntOp.maxsi 2147483648#32 fun e => if value e ≤ t then pattern e else 0#32

/-- If the value of `f` is at most `t` and that of every later pattern is not, the field is that of `f`. -/
theorem field_eq (t : EReal) (f : Fin 256) (hf : value f ≤ t) (hn : ∀ e : Fin 256, f.val < e.val → ¬ value e ≤ t) :
    field t = pattern f := by
  obtain ⟨-, h2, h3⟩ := SortNet.fold_maxsi_spec (fun e => if value e ≤ t then pattern e else 0#32)
    (Finset.univ : Finset (Fin 256)) 2147483648#32
  change _ ∨ ∃ i ∈ _, field t = _ at h3
  have hge : (pattern f).toInt ≤ (field t).toInt := by
    have := h2 f (Finset.mem_univ f)
    rwa [if_pos hf] at this
  apply BitVec.eq_of_toInt_eq
  apply le_antisymm _ hge
  have hp := pattern_toInt f
  rcases h3 with h3 | ⟨e, -, h3⟩
  · exfalso
    have : (field t).toInt = -2147483648 := by
      unfold field; rw [h3]; decide
    omega
  · by_cases he : value e ≤ t
    · have hle : ¬ f.val < e.val := fun h => hn e h he
      rw [h3]
      simp only [he, if_true]
      rw [pattern_toInt e]; omega
    · rw [h3]
      simp only [he, if_false]
      rw [hp]; simp

/-- The kernel's scale of `t`: one where the field is zero, else the power of two one field up. -/
def fieldScale (t : EReal) : EReal :=
  Ideal.ofBits .f32 (if field t = 0#32 then 1065353216#32 else field t + 8388608#32)

/-- The kernel's inverse scale of `t`. -/
def fieldInv (t : EReal) : EReal :=
  Ideal.ofBits .f32 (if field t = 0#32 then 1065353216#32 else 2122317824#32 - field t)

/-- The reference's exponent of `t`: zero below the smallest normal f32, else `⌊log₂ t⌋ + 1`. -/
def expo (t : EReal) : EReal :=
  if t < Ideal.ofBits .f32 0x00800000#32 then Ideal.ofBits .f32 0x00000000#32
  else Ideal.liftRound Int.floor (Ideal.div (Ideal.log t) (Ideal.log (Ideal.ofBits .f32 0x40000000#32)))
    + Ideal.ofBits .f32 0x3F800000#32

/-- The reference's scale of `t`. -/
def scale (t : EReal) : EReal := Ideal.exp2 (expo t)

/-- The reference's inverse scale of `t`. -/
def inv (t : EReal) : EReal := Ideal.exp2 (Ideal.ofBits .f32 0x00000000#32 - expo t)

theorem tiny_eq : Ideal.ofBits .f32 0x00800000#32 = (((2 : ℝ) ^ (-126 : ℤ) : ℝ) : EReal) := by
  have := value_pow 1 (by decide) (by decide)
  have e : pattern 1 = 0x00800000#32 := by decide
  rw [value, e] at this
  rw [this]; norm_num

theorem two_eq : Ideal.ofBits .f32 0x40000000#32 = ((2 : ℝ) : EReal) := by
  have := value_pow 128 (by decide) (by decide)
  have e : pattern 128 = 0x40000000#32 := by decide
  rw [value, e] at this
  rw [this]; norm_num

/-- Below the smallest normal f32 both scales are one. -/
theorem small (t : ℝ) (h0 : 0 ≤ t) (h : t < (2 : ℝ) ^ (-126 : ℤ)) :
    fieldScale t = scale t ∧ fieldInv t = inv t := by
  have hf : field t = 0#32 := by
    rw [field_eq t 0 (by rw [value_zero 0 rfl]; exact_mod_cast h0) fun e he => ?_]
    · decide
    · have he' : 0 < e.val := he
      by_cases h255 : e.val = 255
      · rw [value_top e h255]; simp
      · have := e.isLt
        rw [value_pow e (by omega) (by omega), EReal.coe_le_coe_iff, not_le]
        refine lt_of_lt_of_le h (zpow_le_zpow_right₀ (by norm_num) (by omega))
  have hx : expo t = 0 := by
    rw [expo, tiny_eq, if_pos (EReal.coe_lt_coe_iff.mpr h), Ideal.ofBits_zero_f32]
  have one : Ideal.ofBits .f32 1065353216#32 = 1 := Ideal.ofBits_one_f32
  have e1 : Ideal.exp2 0 = 1 := by
    show Ideal.exp2 ((0 : ℝ) : EReal) = 1
    rw [Ideal.exp2_coe]; simp
  constructor
  · rw [fieldScale, if_pos hf, scale, hx, one, e1]
  · rw [fieldInv, if_pos hf, inv, hx, one, Ideal.ofBits_zero_f32, sub_zero, e1]

theorem exp2_int (n : ℤ) : Ideal.exp2 (((n : ℝ)) : EReal) = (((2 : ℝ) ^ n : ℝ) : EReal) := by
  rw [Ideal.exp2_coe]
  exact congrArg _ (Real.rpow_intCast 2 n)

/-- From the smallest normal f32 to `2 ^ 126` both scales are the next power of two above `t`. -/
theorem normal (t : ℝ) (h : (2 : ℝ) ^ (-126 : ℤ) ≤ t) (hb : t < (2 : ℝ) ^ (126 : ℤ)) :
    fieldScale t = scale t ∧ fieldInv t = inv t := by
  have hpos : 0 < t := lt_of_lt_of_le (by positivity) h
  have l2 : 0 < Real.log 2 := Real.log_pos (by norm_num)
  set n : ℤ := ⌊Real.log t * (Real.log 2)⁻¹⌋ with hn
  have lo : (2 : ℝ) ^ n ≤ t := by
    rw [← Real.log_le_log_iff (by positivity) hpos, Real.log_zpow]
    have := Int.floor_le (Real.log t * (Real.log 2)⁻¹)
    rw [← hn, ← div_eq_mul_inv, le_div_iff₀ l2] at this
    exact this
  have hi : t < (2 : ℝ) ^ (n + 1) := by
    rw [← Real.log_lt_log_iff hpos (by positivity), Real.log_zpow]
    have := Int.lt_floor_add_one (Real.log t * (Real.log 2)⁻¹)
    rw [← hn, ← div_eq_mul_inv, div_lt_iff₀ l2] at this
    push_cast
    exact this
  have n1 : -126 ≤ n := by
    have := (zpow_lt_zpow_iff_right₀ (by norm_num : (1 : ℝ) < 2)).mp (lt_of_le_of_lt h hi)
    omega
  have n2 : n ≤ 125 := by
    have := (zpow_lt_zpow_iff_right₀ (by norm_num : (1 : ℝ) < 2)).mp (lt_of_le_of_lt lo hb)
    omega
  obtain ⟨f, hf⟩ : ∃ f : ℕ, (f : ℤ) = n + 127 := ⟨(n + 127).toNat, by omega⟩
  have f1 : 1 ≤ f := by omega
  have f2 : f ≤ 252 := by omega
  have hfield : field t = pattern ⟨f, by omega⟩ := by
    refine field_eq t ⟨f, by omega⟩ ?_ fun e he => ?_
    · rw [value_pow _ f1 (by show f ≤ 254; omega), EReal.coe_le_coe_iff]
      simpa [hf] using lo
    · have he' : f < e.val := he
      by_cases h255 : e.val = 255
      · rw [value_top e h255]; simp
      · have := e.isLt
        rw [value_pow e (by omega) (by omega), EReal.coe_le_coe_iff, not_le]
        refine lt_of_lt_of_le hi (zpow_le_zpow_right₀ (by norm_num) (by omega))
  have hne : field t ≠ 0#32 := by
    rw [hfield]; intro h0
    have := pattern_toInt ⟨f, by omega⟩
    rw [h0] at this
    simp at this; omega
  have up : ∀ f : Fin 256, f.val ≤ 252 → ∀ h1, pattern f + 8388608#32 = pattern ⟨f.val + 1, h1⟩ := by decide +kernel
  have down : ∀ f : Fin 256, f.val ≤ 252 → ∀ h1, 2122317824#32 - pattern f = pattern ⟨253 - f.val, h1⟩ := by decide +kernel
  have hx : expo t = (((n + 1 : ℤ) : ℝ) : EReal) := by
    have hd : Ideal.div ((Real.log t : ℝ) : EReal) ((Real.log 2 : ℝ) : EReal) = ((Real.log t * (Real.log 2)⁻¹ : ℝ) : EReal) := by
      rw [Ideal.div, if_neg (by exact_mod_cast l2.ne')]
      rw [EReal.coe_mul, EReal.coe_inv]
    rw [expo, tiny_eq, if_neg (not_lt.mpr (EReal.coe_le_coe_iff.mpr h)), two_eq, Ideal.log_coe, Ideal.log_coe,
      if_neg (not_le.mpr hpos), if_neg (by norm_num), hd, Ideal.liftRound_coe, ← hn, Ideal.ofBits_one_f32]
    push_cast
    rfl
  have g1 : f + 1 < 256 := by omega
  have g2 : 253 - f < 256 := by omega
  constructor
  · rw [fieldScale, if_neg hne, scale, hx, exp2_int, hfield, up ⟨f, by omega⟩ f2 g1]
    refine (value_pow ⟨f + 1, g1⟩ (by show 1 ≤ f + 1; omega) (by show f + 1 ≤ 254; omega)).trans ?_
    congr 2; show ((f + 1 : ℕ) : ℤ) - 127 = n + 1; omega
  · have hs : Ideal.ofBits .f32 0x00000000#32 - expo t = (((-(n + 1) : ℤ) : ℝ) : EReal) := by
      rw [hx, Ideal.ofBits_zero_f32, zero_sub, Int.cast_neg, EReal.coe_neg]
    rw [fieldInv, if_neg hne, inv, hs, exp2_int, hfield, down ⟨f, by omega⟩ f2 g2]
    refine (value_pow ⟨253 - f, g2⟩ (by show 1 ≤ 253 - f; omega) (by show 253 - f ≤ 254; omega)).trans ?_
    congr 2; show ((253 - f : ℕ) : ℤ) - 127 = -(n + 1); omega

/-- For `0 ≤ t < 2 ^ 126` the two scales agree, and the two inverses. -/
theorem agree (t : ℝ) (h0 : 0 ≤ t) (hb : t < (2 : ℝ) ^ (126 : ℤ)) :
    fieldScale t = scale t ∧ fieldInv t = inv t := by
  rcases lt_or_ge t ((2 : ℝ) ^ (-126 : ℤ)) with h | h
  · exact small t h0 h
  · exact normal t h hb

end Cert.Exponent
end
-- ==== Proof.Quantiser.lean ====
module

public import proofs.«01_k».proof.Proof.Exponent

@[expose] public section

noncomputable section

/-! # The quantiser of one group

What the reference computes from the 128 values `u` of one row in one group, over the extended reals:
the largest magnitude, its quotient by 448, the codes, and the codes scaled back. Where every magnitude
is at most the largest finite bfloat16, the quotient lies between 0 and `2 ^ 126`, so that the kernel's
scale, read from an exponent field, is the reference's. -/

namespace Cert.Quantiser

open Idealize.ShloMosaic Cert.Exponent

/-- The largest magnitude of the group. -/
def peak (u : Fin 128 → EReal) : EReal :=
  (Finset.univ : Finset (Fin 128)).fold max (Ideal.ofBits .f32 0xFF800000#32) fun l => max (u l) (-u l)

/-- The largest magnitude, times the f32 nearest to 1 / 448. -/
def ratio (u : Fin 128 → EReal) : EReal := peak u * Ideal.ofBits .f32 0x3B124925#32

/-- The code of lane `l` when the values are multiplied by `i`: the product clipped to `[-448, 448]`. -/
def clip (x i : EReal) : EReal :=
  min (Ideal.ofBits .f32 0x43E00000#32) (max (Ideal.ofBits .f32 0xC3E00000#32) (x * i))

/-- The scale of the group. -/
def scaleOf (u : Fin 128 → EReal) : EReal := scale (ratio u)

/-- The code of lane `l`. -/
def code (u : Fin 128 → EReal) (l : Fin 128) : EReal := clip (u l) (inv (ratio u))

/-- The code of lane `l`, scaled back. -/
def back (u : Fin 128 → EReal) (l : Fin 128) : EReal := code u l * scaleOf u

/-- The bound on magnitudes that the precondition states: the largest finite bfloat16. -/
def bound : EReal := Ideal.ofBits .bf16 0x7F7F#16

theorem bound_eq : bound = ((255 * 2 ^ 120 : ℝ) : EReal) := by
  have h1 : (0x7F7F#16).extractLsb' 15 1 = 0#1 := by decide
  have h2 : ((0x7F7F#16).extractLsb' 7 8).toNat = 254 := by decide
  have h3 : ((0x7F7F#16).extractLsb' 0 7).toNat = 127 := by decide
  unfold bound Ideal.ofBits Ideal.ieee
  simp only [h1, h2, h3, Nat.reduceAdd, Nat.reducePow, Nat.reduceSub]
  norm_num

theorem factor_eq : Ideal.ofBits .f32 0x3B124925#32 = ((9586981 * 2 ^ (-32 : ℤ) : ℝ) : EReal) := by
  have h1 : (0x3B124925#32).extractLsb' 31 1 = 0#1 := by decide
  have h2 : ((0x3B124925#32).extractLsb' 23 8).toNat = 118 := by decide
  have h3 : ((0x3B124925#32).extractLsb' 0 23).toNat = 1198373 := by decide
  unfold Ideal.ofBits Ideal.ieee
  simp only [h1, h2, h3, Nat.reduceAdd, Nat.reducePow, Nat.reduceSub]
  norm_num

theorem least_eq : Ideal.ofBits .f32 0xFF800000#32 = ⊥ := by
  simp [Ideal.ofBits, Ideal.ieee]

/-- With magnitudes at most the largest finite bfloat16, the quotient is a real number from 0 to `2 ^ 126`. -/
theorem ratio_real (u : Fin 128 → EReal) (h : ∀ l, max (u l) (-u l) ≤ bound) :
    ∃ t : ℝ, ratio u = t ∧ 0 ≤ t ∧ t < (2 : ℝ) ^ (126 : ℤ) := by
  have hi : peak u ≤ ((255 * 2 ^ 120 : ℝ) : EReal) := by
    rw [← bound_eq, peak, least_eq]
    exact (Finset.fold_max_le _).mpr ⟨bot_le, fun l _ => h l⟩
  have lo : 0 ≤ peak u := by
    refine (Finset.le_fold_max _).mpr (.inr ⟨0, Finset.mem_univ _, ?_⟩)
    rcases le_total 0 (u 0) with h0 | h0
    · exact le_max_of_le_left h0
    · exact le_max_of_le_right (EReal.neg_nonneg.mpr h0)
  obtain ⟨p, hp⟩ : ∃ p : ℝ, peak u = p :=
    ⟨(peak u).toReal, (EReal.coe_toReal (ne_top_of_le_ne_top (EReal.coe_ne_top _) hi)
      (ne_bot_of_le_ne_bot EReal.zero_ne_bot lo)).symm⟩
  rw [hp] at hi lo
  have hi' : p ≤ 255 * 2 ^ 120 := EReal.coe_le_coe_iff.mp hi
  have lo' : 0 ≤ p := by exact_mod_cast lo
  refine ⟨p * (9586981 * 2 ^ (-32 : ℤ)), ?_, by positivity, ?_⟩
  · rw [ratio, hp, factor_eq, ← EReal.coe_mul]
  · refine lt_of_le_of_lt (mul_le_mul_of_nonneg_right hi' (by positivity)) ?_
    norm_num

/-- The kernel's scale and inverse scale of a group are the reference's. -/
theorem field_scale (u : Fin 128 → EReal) (h : ∀ l, max (u l) (-u l) ≤ bound) :
    fieldScale (ratio u) = scaleOf u ∧ fieldInv (ratio u) = inv (ratio u) := by
  obtain ⟨t, ht, h0, hb⟩ := ratio_real u h
  rw [scaleOf, ht]
  exact agree t h0 hb

end Cert.Quantiser
end
-- ==== Proof.GroupValue.lean ====
module

public import proofs.«01_k».proof.Proof.Group
public import proofs.«01_k».proof.Proof.Quantiser
public import Idealize.ShloMosaic.Lib.ValueIdx
public import Idealize.ShloMosaic.Lib.Pipeline.Value
public import Idealize.ShloMosaic.Lib.Pointwise.Reduce

@[expose] public section

set_option maxRecDepth 16384

noncomputable section

/-! # One group of the kernel's quantiser, over the extended reals

For a row `r` of a chunk and a group `g` of its columns: the scale, the codes and the dequantised values
the kernel computes, as functions of the 128 values of that row in that group. -/

namespace Cert.KernelIdeal.Group

open Idealize.ShloMosaic
open Idealize.ShloMosaic.ValueIdx
open Cert.KernelIdeal Cert.KernelIdeal.Gen

/-- The 128 values of row `r` in group `g`. -/
def lanes (v : FVec Ideal S64x8192 .bf16) (r g : Fin 64) : Fin 128 → EReal :=
  fun l => v (ValueIdx.ix2 r ⟨128 * g.val + l.val, by omega⟩)

theorem cols_apply (v : FVec Ideal S64x8192 .bf16) (r g : Fin 64) (l : Fin 128) : cols v g (ValueIdx.ix2 r l) = lanes v r g l := by
  unfold cols
  refine extractStridedSlice_apply _ _ _ _ _ fun a => ?_
  match a with
  | ⟨0, _⟩ => show r.val = 0 + r.val; omega
  | ⟨1, _⟩ => rfl

/-- A vector of 64 read as a column. -/
theorem column_apply {α : Type} (x : S64.Idx → α) (r : Fin 64) : shapeCast S64x1 x shapeCasts_S64_S64x1 (ValueIdx.ix2 r (0 : Fin 1)) = x (ValueIdx.ix1 r) :=
  shapeCast_apply _ _ _ _ (by
    rw [Shape.rowMajor_val_two, Shape.rowMajor_val_one]
    show r.val = r.val * 1 + 0
    omega)

/-- A column spread over 128 lanes. -/
theorem spread_apply {α : Type} (x : S64x1.Idx → α) (r : Fin 64) (l : Fin 128) :
    broadcastTo S64x128 x broadcasts_S64x1_S64x128 (ValueIdx.ix2 r l) = x (ValueIdx.ix2 r (0 : Fin 1)) := by
  refine broadcastTo_apply _ _ _ _ fun a => ?_
  match a with
  | ⟨0, _⟩ => rfl
  | ⟨1, _⟩ => rfl

/-- A column spread over 256 lanes. -/
theorem spread256_apply {α : Type} (x : S64x1.Idx → α) (r : Fin 64) (l : Fin 256) :
    broadcastTo S64x256 x broadcasts_S64x1_S64x256 (ValueIdx.ix2 r l) = x (ValueIdx.ix2 r (0 : Fin 1)) := by
  refine broadcastTo_apply _ _ _ _ fun a => ?_
  match a with
  | ⟨0, _⟩ => rfl
  | ⟨1, _⟩ => rfl

/-- A row's maximum is the fold of `max` over its 128 lanes. -/
theorem rowMax_apply (x : FVec Ideal S64x128 .f32) (r : Fin 64) (acc : BitVec 32) (hf : FKind.Formats .f32) (ha : acc = FKind.maximumf.neutral .f32 hf) :
    multiReduction .maximumf [1] S64 x acc reduces_S64x128_S64 hf ha (ValueIdx.ix1 r)
      = (Finset.univ : Finset (Fin 128)).fold max (Ideal.ofBits .f32 acc) fun l => x (ValueIdx.ix2 r l) := by
  rw [multiReduction_maximumf_eq_fold, Shape.Reduces.fold_fiber_r2_a1]
  refine Finset.fold_congr fun l _ => congrArg x ?_
  funext a
  match a with
  | ⟨0, _⟩ => rfl
  | ⟨1, _⟩ => rfl

/-- A row's signed maximum is the fold of the signed maximum over its 256 lanes. -/
theorem rowMaxI_apply (x : IVec S64x256 32) (r : Fin 64) (acc : BitVec 32) (ha : acc = IKind.maxsi.neutral) :
    multiReductionI .maxsi [1] S64 x acc reduces_S64x256_S64 ha (ValueIdx.ix1 r)
      = (Finset.univ : Finset (Fin 256)).fold IntOp.maxsi acc fun l => x (ValueIdx.ix2 r l) := by
  rw [multiReductionI_eq_fold, Shape.Reduces.fold_fiber_r2_a1]
  refine Finset.fold_congr fun l _ => congrArg x ?_
  funext a
  match a with
  | ⟨0, _⟩ => rfl
  | ⟨1, _⟩ => rfl

theorem ratio_apply (v : FVec Ideal S64x8192 .bf16) (r g : Fin 64) :
    ratio v g (ValueIdx.ix2 r (0 : Fin 1)) = Quantiser.ratio (lanes v r g) := by
  unfold ratio
  rw [mulf_apply, column_apply]
  refine (congrArg (· * _) (rowMax_apply _ r _ _ _)).trans ?_
  unfold Quantiser.ratio Quantiser.peak
  refine congrArg (· * _) (Finset.fold_congr fun l _ => ?_)
  show max (cols v g (ValueIdx.ix2 r l)) (-(cols v g (ValueIdx.ix2 r l))) = _
  rw [cols_apply]

theorem patterns_apply (r : Fin 64) (e : Fin 256) : patterns (ValueIdx.ix2 r e) = Exponent.pattern e := by
  show IntOp.shli .vector (iota .tc S64x256 32 [1] iota_S64x256_d1_w32 (ValueIdx.ix2 r e)) 23#32 = _
  rw [iota_single_apply]
  show IntOp.shli .vector (BitVec.ofNat 32 e.val) 23#32 = _
  unfold IntOp.shli
  rw [if_pos (by decide)]
  revert e; decide +kernel

/-- A selection on an order comparison. -/
theorem select_le {α : Type} (x y : EReal) (a b : α) : Scalar.select (Ideal.cmp .ole x y) a b = if x ≤ y then a else b := by
  unfold Ideal.cmp Scalar.select
  by_cases h : x ≤ y <;> simp [h]

theorem field_apply (v : FVec Ideal S64x8192 .bf16) (r g : Fin 64) :
    field v g (ValueIdx.ix2 r (0 : Fin 1)) = Exponent.field (Quantiser.ratio (lanes v r g)) := by
  unfold field
  rw [column_apply]
  refine (rowMaxI_apply _ r _ _).trans ?_
  unfold Exponent.field
  refine Finset.fold_congr fun e _ => ?_
  show Scalar.select (Ideal.cmp .ole (Ideal.ofBits .f32 (patterns (ValueIdx.ix2 r e))) (broadcastTo S64x256 (ratio v g) broadcasts_S64x1_S64x256 (ValueIdx.ix2 r e)))
    (patterns (ValueIdx.ix2 r e)) 0#32 = _
  rw [spread256_apply, ratio_apply, patterns_apply]
  exact select_le _ _ _ _

/-- A selection on whether a word is zero. -/
theorem select_zero_word {α : Type} (x : BitVec 32) (a b : α) : Scalar.select (IntOp.cmpi .eq x 0#32) a b = if x = 0#32 then a else b := by
  by_cases h : x = 0#32
  · subst h; rfl
  · have : IntOp.cmpi .eq x 0#32 = 0#1 := by
      show BitVec.ofBool (x == 0#32) = 0#1
      rw [beq_eq_false_iff_ne.mpr h]; rfl
    rw [this, if_neg h]; rfl

theorem scale_apply (v : FVec Ideal S64x8192 .bf16) (r g : Fin 64) (l : Fin 128) :
    scale v g (ValueIdx.ix2 r l) = Exponent.fieldScale (Quantiser.ratio (lanes v r g)) := by
  unfold scale
  rw [spread_apply, shapeCast_self]
  show Ideal.ofBits .f32 (Scalar.select (IntOp.cmpi .eq (field v g (ValueIdx.ix2 r (0 : Fin 1))) 0#32) 1065353216#32 (field v g (ValueIdx.ix2 r (0 : Fin 1)) + 8388608#32)) = _
  rw [select_zero_word, field_apply]
  rfl

theorem inv_apply (v : FVec Ideal S64x8192 .bf16) (r g : Fin 64) (l : Fin 128) :
    inv v g (ValueIdx.ix2 r l) = Exponent.fieldInv (Quantiser.ratio (lanes v r g)) := by
  unfold inv
  rw [spread_apply, shapeCast_self]
  show Ideal.ofBits .f32 (Scalar.select (IntOp.cmpi .eq (field v g (ValueIdx.ix2 r (0 : Fin 1))) 0#32) 1065353216#32 (2122317824#32 - field v g (ValueIdx.ix2 r (0 : Fin 1)))) = _
  rw [select_zero_word, field_apply]
  rfl

theorem codes_apply (v : FVec Ideal S64x8192 .bf16) (r g : Fin 64) (l : Fin 128) :
    codes v g (ValueIdx.ix2 r l) = Quantiser.clip (lanes v r g l) (Exponent.fieldInv (Quantiser.ratio (lanes v r g))) := by
  show min (Ideal.ofBits .f32 0x43E00000#32) (max (Ideal.ofBits .f32 0xC3E00000#32) (cols v g (ValueIdx.ix2 r l) * inv v g (ValueIdx.ix2 r l))) = _
  rw [cols_apply, inv_apply]
  rfl

theorem deq_apply (v : FVec Ideal S64x8192 .bf16) (r g : Fin 64) (l : Fin 128) :
    deq v g (ValueIdx.ix2 r l) = Quantiser.clip (lanes v r g l) (Exponent.fieldInv (Quantiser.ratio (lanes v r g)))
      * Exponent.fieldScale (Quantiser.ratio (lanes v r g)) := by
  show codes v g (ValueIdx.ix2 r l) * scale v g (ValueIdx.ix2 r l) = _
  rw [codes_apply, scale_apply]

/-- The selection on a lane's number. -/
theorem lane_select {α : Type} (r g : Fin 64) (l : Fin 128) (a b : α) :
    Scalar.select (cmpi .eq (iota .tc S64x128 32 [1] iota_S64x128_d1_w32) (broadcast S64x128 (BitVec.ofNat 32 g.val)) (ValueIdx.ix2 r l)) a b
      = if l.val = g.val then a else b := by
  have e : cmpi .eq (iota .tc S64x128 32 [1] iota_S64x128_d1_w32) (broadcast S64x128 (BitVec.ofNat 32 g.val)) (ValueIdx.ix2 r l)
      = IntOp.cmpi .eq (BitVec.ofNat 32 l.val) (BitVec.ofNat 32 g.val) := by
    show IntOp.cmpi .eq (iota .tc S64x128 32 [1] iota_S64x128_d1_w32 (ValueIdx.ix2 r l)) _ = _
    rw [iota_single_apply]; rfl
  rw [e]
  have key : ∀ (l : Fin 128) (g : Fin 64), IntOp.cmpi .eq (BitVec.ofNat 32 l.val) (BitVec.ofNat 32 g.val)
      = if l.val = g.val then 1#1 else 0#1 := by decide +kernel
  rw [key]
  split <;> rfl

/-- A fold of selections by lane leaves in lane `n` the value selected for `n`. -/
theorem pick (v : FVec Ideal S64x8192 .bf16) (r n : Fin 64) (l : Fin 128) (hl : l.val = n.val) (L : List (Fin 64))
    (z : FVec Ideal S64x128 .f32) (h : n ∈ L ∨ z (ValueIdx.ix2 r l) = scale v n (ValueIdx.ix2 r l)) :
    L.foldl (fun s g => select (cmpi .eq (iota .tc S64x128 32 [1] iota_S64x128_d1_w32) (broadcast S64x128 (BitVec.ofNat 32 g.val))) (scale v g) s) z
      (ValueIdx.ix2 r l) = scale v n (ValueIdx.ix2 r l) := by
  induction L generalizing z with
  | nil => exact h.resolve_left (List.not_mem_nil)
  | cons g L ih =>
    refine ih _ ?_
    beta_reduce
    rw [select_apply, lane_select]
    by_cases hg : l.val = g.val
    · have : g = n := Fin.ext (by omega)
      subst this
      exact .inr (if_pos hg)
    · rw [if_neg hg]
      refine h.imp_left fun hm => ?_
      rcases List.mem_cons.mp hm with rfl | hm
      · exact absurd hl hg
      · exact hm

theorem scales_apply (v : FVec Ideal S64x8192 .bf16) (r g : Fin 64) (l : Fin 128) (hl : l.val = g.val) :
    scales v (ValueIdx.ix2 r l) = Exponent.fieldScale (Quantiser.ratio (lanes v r g)) :=
  (pick v r g l hl _ _ (.inl (List.mem_finRange g))).trans (scale_apply v r g l)

end Cert.KernelIdeal.Group
end
-- ==== Proof.Rows.lean ====
module

public import proofs.«01_k».proof.Proof.Quantiser
public import Idealize.ShloMosaic.Lib.ValueIdx

@[expose] public section

noncomputable section

/-! # The linear layer, row by row

The results the reference states, as functions of one row `u` of `x`, one row `w` of codes of the weights and
the scales `s` of that row: 8192 columns in 64 groups of 128. -/

namespace Cert.Rows

open Idealize.ShloMosaic Cert.Exponent Cert.Quantiser

/-- The group a column lies in. -/
def groupOf (k : Fin 8192) : Fin 64 := ⟨k.val / 128, by omega⟩

/-- The place of a column in its group. -/
def laneOf (k : Fin 8192) : Fin 128 := ⟨k.val % 128, by omega⟩

/-- The 128 values of group `g`. -/
def group (u : Fin 8192 → EReal) (g : Fin 64) : Fin 128 → EReal := fun l => u ⟨128 * g.val + l.val, by omega⟩

/-- The scale of group `g`. -/
def rowScale (u : Fin 8192 → EReal) (g : Fin 64) : EReal := scaleOf (group u g)

/-- The code of column `k`. -/
def rowCode (u : Fin 8192 → EReal) (k : Fin 8192) : EReal := code (group u (groupOf k)) (laneOf k)

/-- The dequantised value of column `k`. -/
def rowBack (u : Fin 8192 → EReal) (k : Fin 8192) : EReal := back (group u (groupOf k)) (laneOf k)

/-- The dequantised weight of column `k`. -/
def rowWeight (w : Fin 8192 → EReal) (s : Fin 64 → EReal) (k : Fin 8192) : EReal := w k * s (groupOf k)

/-- The product of a dequantised row of `x` and a dequantised row of the weights. -/
def rowDot (u w : Fin 8192 → EReal) (s : Fin 64 → EReal) : EReal := ∑ k, rowBack u k * rowWeight w s k

/-- A row of a rank-two array. -/
def rowAt {n k : ℕ} (X : (⟨2, ![n, k]⟩ : Shape).Idx → EReal) (p : Fin n) : Fin k → EReal := fun j => X (ValueIdx.ix2 p j)

/-- Every magnitude is at most the largest finite bfloat16. -/
def Bounded {ι : Type} (X : ι → EReal) : Prop := ∀ i, max (X i) (-X i) ≤ bound

/-- The codes of all rows. -/
def codesOf (X : (⟨2, ![16384, 8192]⟩ : Shape).Idx → EReal) : (⟨2, ![16384, 8192]⟩ : Shape).Idx → EReal :=
  fun i => rowCode (rowAt X (i 0)) (i 1)

/-- The scales of all rows. -/
def scalesOf (X : (⟨2, ![16384, 8192]⟩ : Shape).Idx → EReal) : (⟨2, ![16384, 64]⟩ : Shape).Idx → EReal :=
  fun i => rowScale (rowAt X (i 0)) (i 1)

/-- The products of all rows of `x` with all rows of the weights. -/
def productOf (X : (⟨2, ![16384, 8192]⟩ : Shape).Idx → EReal) (W : (⟨2, ![14336, 8192]⟩ : Shape).Idx → EReal)
    (S : (⟨2, ![14336, 64]⟩ : Shape).Idx → EReal) : (⟨2, ![16384, 14336]⟩ : Shape).Idx → EReal :=
  fun i => rowDot (rowAt X (i 0)) (rowAt W (i 1)) (rowAt S (i 1))

end Cert.Rows
end
-- ==== Proof.BlockValue.lean ====
module

public import proofs.«01_k».proof.Proof.GroupValue
public import proofs.«01_k».proof.Proof.Tile
public import proofs.«01_k».proof.Proof.Rows
public import Idealize.ShloMosaic.Lib.MatmulPlain

@[expose] public section

set_option maxRecDepth 16384

noncomputable section

/-! # A block of the kernel's results, over the extended reals

The codes, the scales, the dequantised values and the output tile of a block of 512 rows are, element by
element, the row functions of `Rows`, when every magnitude in the block of `x` is at most the largest
finite bfloat16. -/

namespace Cert.KernelIdeal.Group

open Idealize.ShloMosaic
open Cert.KernelIdeal Cert.KernelIdeal.Gen
open Cert.Rows Cert.Quantiser

/-- The lanes of a row of a chunk are the group of that row of the block. -/
theorem lanes_rows (X : Vec Ideal S512x8192 .bf16) (p : Fin 512) (g : Fin 64) (h1 : p.val / 64 < 8) (h2 : p.val % 64 < 64) :
    lanes (rowsOf X ⟨p.val / 64, h1⟩) ⟨p.val % 64, h2⟩ g = group (rowAt X p) g := by
  funext l
  refine congrArg X ?_
  funext a; apply Fin.ext
  match a with
  | ⟨0, _⟩ => show 64 * (p.val / 64) + p.val % 64 = p.val; omega
  | ⟨1, _⟩ => rfl

theorem group_bounded (X : Vec Ideal S512x8192 .bf16) (hX : Bounded X) (p : Fin 512) (g : Fin 64) (l : Fin 128) :
    max (group (rowAt X p) g l) (-group (rowAt X p) g l) ≤ bound := hX _

theorem codesBlk_apply (X : Vec Ideal S512x8192 .bf16) (hX : Bounded X) (p : Fin 512) (k : Fin 8192) :
    codesBlk X (ValueIdx.ix2 p k) = rowCode (rowAt X p) k := by
  have h := field_scale (group (rowAt X p) (groupOf k)) (group_bounded X hX p _)
  refine (codes_apply (rowsOf X ⟨p.val / 64, by omega⟩) ⟨p.val % 64, by omega⟩ (groupOf k) (laneOf k)).trans ?_
  rw [lanes_rows, h.2]
  rfl

theorem deqBlk_apply (X : Vec Ideal S512x8192 .bf16) (hX : Bounded X) (p : Fin 512) (k : Fin 8192) :
    deqBlk X (ValueIdx.ix2 p k) = rowBack (rowAt X p) k := by
  have h := field_scale (group (rowAt X p) (groupOf k)) (group_bounded X hX p _)
  refine (deq_apply (rowsOf X ⟨p.val / 64, by omega⟩) ⟨p.val % 64, by omega⟩ (groupOf k) (laneOf k)).trans ?_
  rw [lanes_rows, h.1, h.2]
  rfl

theorem scaleBlk_apply (X : Vec Ideal S512x8192 .bf16) (hX : Bounded X) (p : Fin 512) (g : Fin 64) :
    scaleBlk X (ValueIdx.ix2 p g) = rowScale (rowAt X p) g := by
  have h := field_scale (group (rowAt X p) g) (group_bounded X hX p _)
  refine (scales_apply (rowsOf X ⟨p.val / 64, by omega⟩) ⟨p.val % 64, by omega⟩ g ⟨g.val, by omega⟩ rfl).trans ?_
  rw [lanes_rows, h.1]
  rfl

/-- A column of 512 spread over 128 lanes. -/
theorem spread512_apply {α : Type} (x : S512x1.Idx → α) (r : Fin 512) (l : Fin 128) :
    broadcastTo S512x128 x broadcasts_S512x1_S512x128 (ValueIdx.ix2 r l) = x (ValueIdx.ix2 r (0 : Fin 1)) := by
  refine broadcastTo_apply _ _ _ _ fun a => ?_
  match a with
  | ⟨0, _⟩ => rfl
  | ⟨1, _⟩ => rfl

/-- A group of columns of the dequantised weights. -/
theorem weight_apply (x1 : Vec Ideal S512x8192 .fp8e4m3) (x2 : Vec Ideal S512x64 .f32) (n : Fin 512) (g : Fin 64) (l : Fin 128) :
    k0_pay599 (wScale x2 g) (wCols x1 g) (ValueIdx.ix2 n l) = x1 (ValueIdx.ix2 n ⟨128 * g.val + l.val, by omega⟩) * x2 (ValueIdx.ix2 n g) := by
  show wCols x1 g (ValueIdx.ix2 n l) * broadcastTo S512x128 (shapeCast S512x1 (wScale x2 g) shapeCasts_S512x1_S512x1) broadcasts_S512x1_S512x128 (ValueIdx.ix2 n l) = _
  rw [spread512_apply, shapeCast_self]
  rfl

/-- The weights joined from their groups of columns, element by element. -/
theorem wJoin_apply (x1 : Vec Ideal S512x8192 .fp8e4m3) (x2 : Vec Ideal S512x64 .f32) (n : Fin 512) (k : Fin 8192) :
    wJoin (fun g => k0_pay599 (wScale x2 g) (wCols x1 g)) (ValueIdx.ix2 n k) = rowWeight (rowAt x1 n) (rowAt x2 n) k := by
  refine (concatenate_ofFn_apply (t := S512x8192) (s₁ := S512x128) 1 (fun g : Fin 64 => k0_pay599 (wScale x2 g) (wCols x1 g)) _ rfl 128 rfl
    (ValueIdx.ix2 n k) (groupOf k) rfl (ValueIdx.ix2 n (laneOf k)) rfl ?_).trans ?_
  · intro b hb
    match b with
    | ⟨0, _⟩ => rfl
    | ⟨1, _⟩ => exact absurd rfl hb
  · rw [weight_apply]
    refine congrArg (· * _) (congrArg x1 (congrArg (ValueIdx.ix2 n) (Fin.ext ?_)))
    show 128 * (k.val / 128) + k.val % 128 = k.val
    omega

theorem dot_eq : dot_S512x8192_S512x8192_S512x512_1_1_0_0_n_n = DotDims.transposedRhs 512 8192 512 := rfl

/-- An element of the output tile is the product of a dequantised row of `x` and a dequantised row of the weights. -/
theorem yTile_apply (X : Vec Ideal S512x8192 .bf16) (x1 : Vec Ideal S512x8192 .fp8e4m3) (x2 : Vec Ideal S512x64 .f32) (hX : Bounded X) (p n : Fin 512) :
    yTile (deqBlk X) x1 x2 (ValueIdx.ix2 p n) = rowDot (rowAt X p) (rowAt x1 n) (rowAt x2 n) := by
  show FloatOps.matmul dot_S512x8192_S512x8192_S512x512_1_1_0_0_n_n none (deqBlk X) (wJoin (fun g => k0_pay599 (wScale x2 g) (wCols x1 g)))
    (constant S512x512 .f32 0x00000000#32) (ValueIdx.ix2 p n) = _
  rw [dot_eq]
  refine (Ideal.matmul_transposedRhs_apply none _ _ _ p n).trans ?_
  rw [ValueIdx.constant_apply, Ideal.ofBits_zero_f32, zero_add]
  refine Finset.sum_congr rfl fun k _ => ?_
  rw [deqBlk_apply X hX, wJoin_apply]

end Cert.KernelIdeal.Group
end
-- ==== Proof.KernelArrays.lean ====
module

public import proofs.«01_k».proof.Proof.Region
public import proofs.«01_k».proof.Proof.BlockValue

@[expose] public section

set_option maxRecDepth 16384

noncomputable section

/-! # The kernel's three results

What the three result arrays hold after the run, over the extended reals, as functions of the arguments: each
grid point's blocks are blocks of the arrays of `Rows`. -/

namespace Cert.KernelIdeal.Gen

open Idealize.ShloMosaic Idealize.SL.Sem Idealize.ShloMosaic.TcCoe Idealize.ShloMosaic.Tactic
open Idealize.ShloMosaic.Pipeline (Dat Cfg Window)
open Cert.Rows Cert.Quantiser

variable (m : (ℓ : Loc nD τ sig) → Buf (Elt Ideal) ℓ) (ρ : Dev nD → PrngReg)

/-- The activations as the kernel reads them: the first argument with its leading two axes joined. -/
def acts (c : Dev nD) : S16384x8192.Idx → EReal :=
  shapeCast S16384x8192 (m ((c : Thread nD τ).loc main_arg0)) shapeCasts_S8x2048x8192_S16384x8192

/-- The codes of the weights. -/
def weights (c : Dev nD) : S14336x8192.Idx → EReal := m ((c : Thread nD τ).loc main_arg1)

/-- The scales of the weights. -/
def wscales (c : Dev nD) : S14336x64.Idx → EReal := m ((c : Thread nD τ).loc main_arg2)

theorem V_main_v0 (c : Dev nD) : (V m c main_v0 : S16384x8192.Idx → EReal) = acts m c := by
  show StableHlo.after hostOps0 _ (Proc.devRef .tc main_v0) = _
  after_results
  rfl

theorem bounded_block (c : Dev nD) (h : Bounded (acts m c)) (t : Fin cfg0.N) :
    Bounded (ι := S512x8192.Idx) (iblk m c 0 t) := by
  intro y
  have e := (iblk0_apply m c t y).trans (congrFun (V_main_v0 m c) _)
  rw [e]
  exact h _

theorem lt_N (t : Fin cfg0.N) : t.val < 896 := lt_of_lt_of_eq t.isLt (show cfg0.N = 896 from N_0)

/-- A row of a point's block of `x` is a row of the activations. -/
theorem row_x (c : Dev nD) (t : Fin cfg0.N) (p : Fin 512) (r : Fin 16384) (hr : r.val = 512 * (t.val / 28) + p.val) :
    rowAt (n := 512) (k := 8192) (iblk m c 0 t) p = rowAt (acts m c) r := by
  funext k
  refine ((iblk0_apply m c t (ValueIdx.ix2 p k)).trans (congrFun (V_main_v0 m c) _)).trans ?_
  refine congrArg (acts m c) (congrArg (fun q => ValueIdx.ix2 q k) (Fin.ext hr.symm))

/-- A row of a point's block of the weights is a row of the weights. -/
theorem row_w (c : Dev nD) (t : Fin cfg0.N) (p : Fin 512) (r : Fin 14336) (hr : r.val = 512 * (t.val % 28) + p.val) :
    rowAt (n := 512) (k := 8192) (iblk m c 1 t) p = rowAt (weights m c) r := by
  funext k
  refine ((iblk1_apply m c t (ValueIdx.ix2 p k)).trans (congrFun (V_main_arg1 m c) _)).trans ?_
  refine congrArg (weights m c) (congrArg (fun q => ValueIdx.ix2 q k) (Fin.ext hr.symm))

/-- A row of a point's block of the weights' scales is a row of the weights' scales. -/
theorem row_s (c : Dev nD) (t : Fin cfg0.N) (p : Fin 512) (r : Fin 14336) (hr : r.val = 512 * (t.val % 28) + p.val) :
    rowAt (n := 512) (k := 64) (iblk m c 2 t) p = rowAt (wscales m c) r := by
  funext k
  refine ((iblk2_apply m c t (ValueIdx.ix2 p k)).trans (congrFun (V_main_arg2 m c) _)).trans ?_
  refine congrArg (wscales m c) (congrArg (fun q => ValueIdx.ix2 q k) (Fin.ext hr.symm))

/-- An element of a point's tile. -/
theorem tile_value (c : Dev nD) (h : Bounded (acts m c)) (t : Fin cfg0.N) (y : S512x512.Idx) (i : S16384x14336.Idx)
    (h0 : (i 0).val = 512 * (t.val / 28) + (y 0).val) (h1 : (i 1).val = 512 * (t.val % 28) + (y 1).val) :
    (Group.yTile (Group.deqBlk (iblk m c 0 t)) (iblk m c 1 t) (iblk m c 2 t) : S512x512.Idx → EReal) y
      = productOf (acts m c) (weights m c) (wscales m c) i := by
  have e := Group.yTile_apply (iblk m c 0 t) (iblk m c 1 t) (iblk m c 2 t) (bounded_block m c h t) (y 0) (y 1)
  rw [row_x m c t (y 0) (i 0) h0, row_w m c t (y 1) (i 1) h1, row_s m c t (y 1) (i 1) h1] at e
  exact (congrArg (Group.yTile (Group.deqBlk (iblk m c 0 t)) (iblk m c 1 t) (iblk m c 2 t) : S512x512.Idx → EReal) (ValueIdx.eq_ix2 y)).trans e

/-- An element of a point's codes. -/
theorem codes_value (c : Dev nD) (h : Bounded (acts m c)) (t : Fin cfg0.N) (y : S512x8192.Idx) (i : S16384x8192.Idx)
    (h0 : (i 0).val = 512 * (t.val / 28) + (y 0).val) (h1 : i 1 = y 1) :
    (Group.codesBlk (iblk m c 0 t) : S512x8192.Idx → EReal) y = codesOf (acts m c) i := by
  have e := Group.codesBlk_apply (iblk m c 0 t) (bounded_block m c h t) (y 0) (y 1)
  exact ((congrArg (Group.codesBlk (iblk m c 0 t) : S512x8192.Idx → EReal) (ValueIdx.eq_ix2 y)).trans e).trans
    (congrArg₂ rowCode (row_x m c t (y 0) (i 0) h0) h1.symm)

/-- An element of a point's scales. -/
theorem scales_value (c : Dev nD) (h : Bounded (acts m c)) (t : Fin cfg0.N) (y : S512x64.Idx) (i : S16384x64.Idx)
    (h0 : (i 0).val = 512 * (t.val / 28) + (y 0).val) (h1 : i 1 = y 1) :
    (Group.scaleBlk (iblk m c 0 t) : S512x64.Idx → EReal) y = scalesOf (acts m c) i := by
  have e := Group.scaleBlk_apply (iblk m c 0 t) (bounded_block m c h t) (y 0) (y 1)
  exact ((congrArg (Group.scaleBlk (iblk m c 0 t) : S512x64.Idx → EReal) (ValueIdx.eq_ix2 y)).trans e).trans
    (congrArg₂ rowScale (row_x m c t (y 0) (i 0) h0) h1.symm)

/-- The first result after the run: the products. -/
theorem final3 (c : Dev nD) (h : Bounded (acts m c)) :
    (dats m 0 c).arrAt 3 cfg0.N = productOf (acts m c) (weights m c) (wscales m c) := by
  refine (dats m 0 c).arrAt_eq_of_covers 3 _ (by decide +kernel) fun t hf y => ?_
  blk_simp
  rw [after0_3]
  refine tile_value m c h t y _ ?_ ?_
  · blk_simp [index_eq t]
    omega
  · blk_simp [index_eq t]
    omega

/-- The second result after the run: the codes. -/
theorem final4 (c : Dev nD) (h : Bounded (acts m c)) : (dats m 0 c).arrAt 4 cfg0.N = codesOf (acts m c) := by
  refine (dats m 0 c).arrAt_eq_of_covers 4 _ (by decide +kernel) fun t hf y => ?_
  blk_simp
  rw [after0_4]
  refine codes_value m c h t y _ ?_ (Fin.ext ?_)
  · blk_simp [index_eq t]
    omega
  · blk_simp [index_eq t]

/-- The third result after the run: the scales. -/
theorem final5 (c : Dev nD) (h : Bounded (acts m c)) : (dats m 0 c).arrAt 5 cfg0.N = scalesOf (acts m c) := by
  refine (dats m 0 c).arrAt_eq_of_covers 5 _ (by decide +kernel) fun t hf y => ?_
  blk_simp
  rw [after0_5]
  refine scales_value m c h t y _ ?_ (Fin.ext ?_)
  · blk_simp [index_eq t]
    omega
  · blk_simp [index_eq t]

/-- What a run of the kernel leaves: the three results, and the arguments unchanged. -/
theorem results (h : ∀ c, Bounded (acts m c)) : θ_run defs (onTc (τ := τ) (main (F := Ideal))) ⟨m, fun _ => 0, ρ⟩ (fun r => ∀ c : Dev nD,
      r.2.mem ((c.tc : Thread nD τ).loc main_v1_0) = productOf (acts m c) (weights m c) (wscales m c)
      ∧ r.2.mem ((c.tc : Thread nD τ).loc main_v1_1) = codesOf (acts m c)
      ∧ r.2.mem ((c.tc : Thread nD τ).loc main_v1_2) = scalesOf (acts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r p c => ⟨((p.1 c).1 3).trans (final3 m c (h c)), ((p.1 c).1 4).trans (final4 m c (h c)),
    ((p.1 c).1 5).trans (final5 m c (h c)), p.2 c⟩) (θ_run_and (run_main m ρ) (unchanged m ρ))

end Cert.KernelIdeal.Gen
end
-- ==== Proof.ReferencePayload.lean ====
module

public import proofs.«01_k».proof.Proof.Gen.ReferenceIdeal.Skeleton
public import proofs.«01_k».proof.Proof.Rows
public import Idealize.ShloMosaic.Lib.MatmulPlain
public import Idealize.ShloMosaic.Lib.Pipeline.Value
public import Idealize.ShloMosaic.Lib.Pointwise.Reduce

@[expose] public section

set_option maxRecDepth 16384

noncomputable section

/-! # The reference's values, over the extended reals

Each of the reference's three results, element by element, is the row function of `Rows`. -/

namespace Cert.ReferenceIdeal.Payload

open Idealize.ShloMosaic
open Idealize.ShloMosaic.ValueIdx
open Cert.ReferenceIdeal Cert.ReferenceIdeal.Gen
open Cert.Rows

/-- Splitting the columns into groups: the element at a group and a lane. -/
theorem split_apply {α : Type} {n : ℕ} (x : (⟨2, ![n, 8192]⟩ : Shape).Idx → α) (h : (⟨2, ![n, 8192]⟩ : Shape).ShapeCasts ⟨3, ![n, 64, 128]⟩)
    (r : Fin n) (g : Fin 64) (l : Fin 128) :
    shapeCast ⟨3, ![n, 64, 128]⟩ x h (ValueIdx.ix3 r g l) = x (ValueIdx.ix2 r ⟨128 * g.val + l.val, by omega⟩) :=
  shapeCast_apply _ _ _ _ (by
    rw [Shape.rowMajor_val_two, Shape.rowMajor_val_three]
    show r.val * 8192 + (128 * g.val + l.val) = (r.val * 64 + g.val) * 128 + l.val
    omega)

/-- Joining the groups of columns: the element at a column. -/
theorem join_apply {α : Type} {n : ℕ} (x : (⟨3, ![n, 64, 128]⟩ : Shape).Idx → α) (h : (⟨3, ![n, 64, 128]⟩ : Shape).ShapeCasts ⟨2, ![n, 8192]⟩)
    (r : Fin n) (k : Fin 8192) :
    shapeCast ⟨2, ![n, 8192]⟩ x h (ValueIdx.ix2 r k) = x (ValueIdx.ix3 r (groupOf k) (laneOf k)) :=
  shapeCast_apply _ _ _ _ (by
    rw [Shape.rowMajor_val_two, Shape.rowMajor_val_three]
    show (r.val * 64 + k.val / 128) * 128 + k.val % 128 = r.val * 8192 + k.val
    omega)

/-- A value per row and group, as a column per group. -/
theorem column_apply {α : Type} {n : ℕ} (x : (⟨2, ![n, 64]⟩ : Shape).Idx → α) (h : (⟨2, ![n, 64]⟩ : Shape).ShapeCasts ⟨3, ![n, 64, 1]⟩)
    (r : Fin n) (g : Fin 64) :
    shapeCast ⟨3, ![n, 64, 1]⟩ x h (ValueIdx.ix3 r g (0 : Fin 1)) = x (ValueIdx.ix2 r g) :=
  shapeCast_apply _ _ _ _ (by
    rw [Shape.rowMajor_val_two, Shape.rowMajor_val_three]
    show r.val * 64 + g.val = (r.val * 64 + g.val) * 1 + 0
    omega)

/-- A column per group, spread over the lanes of the group. -/
theorem spreadX_apply {α : Type} (x : S16384x64x1.Idx → α) (r : Fin 16384) (g : Fin 64) (l : Fin 128) :
    broadcastTo S16384x64x128 x broadcasts_S16384x64x1_S16384x64x128 (ValueIdx.ix3 r g l) = x (ValueIdx.ix3 r g (0 : Fin 1)) := by
  refine broadcastTo_apply _ _ _ _ fun a => ?_
  match a with
  | ⟨0, _⟩ => rfl
  | ⟨1, _⟩ => rfl
  | ⟨2, _⟩ => rfl

theorem spreadW_apply {α : Type} (x : S14336x64x1.Idx → α) (r : Fin 14336) (g : Fin 64) (l : Fin 128) :
    broadcastTo S14336x64x128 x broadcasts_S14336x64x1_S14336x64x128 (ValueIdx.ix3 r g l) = x (ValueIdx.ix3 r g (0 : Fin 1)) := by
  refine broadcastTo_apply _ _ _ _ fun a => ?_
  match a with
  | ⟨0, _⟩ => rfl
  | ⟨1, _⟩ => rfl
  | ⟨2, _⟩ => rfl

/-- The maximum of a group is the fold of `max` over its 128 lanes. -/
theorem groupMax_apply (x : FVec Ideal S16384x64x128 .f32) (r : Fin 16384) (g : Fin 64) (acc : BitVec 32) (hf : FKind.Formats .f32)
    (ha : acc = FKind.maximumf.neutral .f32 hf) :
    multiReduction .maximumf [2] S16384x64 x acc reduces_S16384x64x128_S16384x64 hf ha (ValueIdx.ix2 r g)
      = (Finset.univ : Finset (Fin 128)).fold max (Ideal.ofBits .f32 acc) fun l => x (ValueIdx.ix3 r g l) := by
  rw [multiReduction_maximumf_eq_fold, Shape.Reduces.fold_fiber_r3_a2]
  refine Finset.fold_congr fun l _ => congrArg x ?_
  funext a
  match a with
  | ⟨0, _⟩ => rfl
  | ⟨1, _⟩ => rfl
  | ⟨2, _⟩ => rfl

/-- A selection on a strict order comparison. -/
theorem select_lt {α : Type} (x y : EReal) (a b : α) : Scalar.select (Ideal.cmp .olt x y) a b = if x < y then a else b := by
  unfold Ideal.cmp Scalar.select
  by_cases h : x < y <;> simp [h]

theorem pay3_apply (X : Vec Ideal S16384x8192 .bf16) (r : Fin 16384) (g : Fin 64) (l : Fin 128) :
    k0_pay3 X (ValueIdx.ix3 r g l) = group (rowAt X r) g l := by
  unfold k0_pay3
  refine (split_apply (n := 16384) (extf (F := Ideal) (φ := .bf16) .f32 (shapeCast S16384x8192 X shapeCasts_S16384x8192_S16384x8192) bitsLt_bf16_f32)
    shapeCasts_S16384x8192_S16384x64x128 r g l).trans ?_
  show shapeCast S16384x8192 X shapeCasts_S16384x8192_S16384x8192 (ValueIdx.ix2 r ⟨128 * g.val + l.val, by omega⟩) = _
  rw [shapeCast_self]
  rfl

/-- The reference's choice of an exponent, at an index. -/
theorem expo_apply (M : FVec Ideal S16384x64 .f32) (j : S16384x64.Idx) :
    select (cmpf .olt (mulf M (broadcast S16384x64 (Scalar.ofBits .f32 0x3B124925#32))) (broadcast S16384x64 (Scalar.ofBits .f32 0x00800000#32)))
      (broadcast S16384x64 (Scalar.ofBits .f32 0x00000000#32))
      (addf (floor (divf (log (mulf M (broadcast S16384x64 (Scalar.ofBits .f32 0x3B124925#32))))
        (log (broadcast S16384x64 (Scalar.ofBits .f32 0x40000000#32))))) (broadcast S16384x64 (Scalar.ofBits .f32 0x3F800000#32))) j
      = Exponent.expo (M j * Ideal.ofBits .f32 0x3B124925#32) := by
  rw [select_apply]
  exact select_lt (M j * Ideal.ofBits .f32 0x3B124925#32) _ _ _

/-- The exponent the reference chooses for a group. -/
theorem pay4_apply (X : Vec Ideal S16384x8192 .bf16) (r : Fin 16384) (g : Fin 64) :
    k0_pay4 X (ValueIdx.ix2 r g) = Exponent.expo (Quantiser.ratio (group (rowAt X r) g)) := by
  have e : multiReduction .maximumf [2] S16384x64 (absf (k0_pay3 X)) 0xFF800000#32 reduces_S16384x64x128_S16384x64 (.inl rfl) rfl (ValueIdx.ix2 r g)
      = Quantiser.peak (group (rowAt X r) g) := by
    refine (groupMax_apply _ r g _ _ _).trans (Finset.fold_congr fun l _ => ?_)
    show max (k0_pay3 X (ValueIdx.ix3 r g l)) (-k0_pay3 X (ValueIdx.ix3 r g l)) = _
    rw [pay3_apply]
  unfold Quantiser.ratio
  rw [← e]
  exact expo_apply _ _

/-- A vector of powers of two, at an index. -/
theorem exp2_apply' (M : FVec Ideal S16384x64 .f32) (j : S16384x64.Idx) : exp2 M j = Ideal.exp2 (M j) := rfl

/-- The inverse scales, at an index. -/
theorem negated_apply (M : FVec Ideal S16384x64 .f32) (j : S16384x64.Idx) :
    exp2 (subf (broadcast S16384x64 (Scalar.ofBits .f32 0x00000000#32)) M) j = Ideal.exp2 (Ideal.ofBits .f32 0x00000000#32 - M j) := rfl

/-- A value per row and group, spread over the lanes of the group. -/
theorem perGroup_apply {α : Type} (x : S16384x64.Idx → α) (r : Fin 16384) (g : Fin 64) (l : Fin 128) :
    broadcastTo S16384x64x128 (shapeCast S16384x64x1 x shapeCasts_S16384x64_S16384x64x1) broadcasts_S16384x64x1_S16384x64x128 (ValueIdx.ix3 r g l)
      = x (ValueIdx.ix2 r g) :=
  (spreadX_apply _ r g l).trans (column_apply x shapeCasts_S16384x64_S16384x64x1 r g)

theorem pay5_apply (X : Vec Ideal S16384x8192 .bf16) (r : Fin 16384) (g : Fin 64) :
    k0_pay5 X (ValueIdx.ix2 r g) = rowScale (rowAt X r) g := by
  unfold k0_pay5
  rw [exp2_apply', pay4_apply]
  rfl

/-- The clipped product, at an index. -/
theorem clip_apply (A B : FVec Ideal S16384x64x128 .f32) (j : S16384x64x128.Idx) :
    truncf .fp8e4m3 (minimumf (broadcast S16384x64x128 (Scalar.ofBits .f32 0x43E00000#32))
      (maximumf (broadcast S16384x64x128 (Scalar.ofBits .f32 0xC3E00000#32)) (mulf A B))) bitsLt_fp8e4m3_f32 j
      = Quantiser.clip (A j) (B j) := rfl

theorem pay6_apply (X : Vec Ideal S16384x8192 .bf16) (r : Fin 16384) (g : Fin 64) (l : Fin 128) :
    k0_pay6 X (ValueIdx.ix3 r g l) = Quantiser.code (group (rowAt X r) g) l := by
  unfold k0_pay6
  refine (clip_apply _ _ _).trans ?_
  rw [perGroup_apply, negated_apply, pay4_apply, pay3_apply]
  rfl

/-- The codes. -/
theorem pay2_apply (X : Vec Ideal S16384x8192 .bf16) (r : Fin 16384) (k : Fin 8192) :
    k0_pay2 (k0_pay6 X) (ValueIdx.ix2 r k) = rowCode (rowAt X r) k := by
  unfold k0_pay2
  exact (join_apply (k0_pay6 X) shapeCasts_S16384x64x128_S16384x8192 r k).trans (pay6_apply X r _ _)

/-- A narrowed scale, at an index. -/
theorem narrow_apply (A : FVec Ideal S16384x64 .f32) (j : S16384x64.Idx) : truncf .bf16 A bitsLt_bf16_f32 j = A j := rfl

/-- A code times a scale, at an index. -/
theorem times_apply (A : FVec Ideal S16384x64x128 .fp8e4m3) (B : FVec Ideal S16384x64x128 .bf16) (j : S16384x64x128.Idx) :
    mulf (extf .bf16 A bitsLt_fp8e4m3_bf16) B j = A j * B j := rfl

/-- The dequantised values. -/
theorem pay7_apply (X : Vec Ideal S16384x8192 .bf16) (r : Fin 16384) (k : Fin 8192) :
    k0_pay7 X (ValueIdx.ix2 r k) = rowBack (rowAt X r) k := by
  unfold k0_pay7
  refine (join_apply (n := 16384) (mulf (extf .bf16 (k0_pay6 X) bitsLt_fp8e4m3_bf16) (broadcastTo S16384x64x128 (shapeCast S16384x64x1
    (truncf .bf16 (k0_pay5 X) bitsLt_bf16_f32) shapeCasts_S16384x64_S16384x64x1) broadcasts_S16384x64x1_S16384x64x128))
    shapeCasts_S16384x64x128_S16384x8192 r k).trans ?_
  rw [times_apply, pay6_apply, perGroup_apply]
  rw [narrow_apply, pay5_apply]
  rfl

/-- The dequantised weights. -/
theorem pay8_apply (W : Vec Ideal S14336x8192 .fp8e4m3) (S : Vec Ideal S14336x64 .f32) (n : Fin 14336) (k : Fin 8192) :
    shapeCast S14336x8192 (k0_pay8 W S) shapeCasts_S14336x64x128_S14336x8192 (ValueIdx.ix2 n k) = rowWeight (rowAt W n) (rowAt S n) k := by
  refine (join_apply _ shapeCasts_S14336x64x128_S14336x8192 n k).trans ?_
  show shapeCast S14336x64x128 W shapeCasts_S14336x8192_S14336x64x128 (ValueIdx.ix3 n (groupOf k) (laneOf k))
    * broadcastTo S14336x64x128 (shapeCast S14336x64x1 S shapeCasts_S14336x64_S14336x64x1) broadcasts_S14336x64x1_S14336x64x128
      (ValueIdx.ix3 n (groupOf k) (laneOf k)) = _
  rw [spreadW_apply]
  refine congrArg₂ (· * ·) ((split_apply W shapeCasts_S14336x8192_S14336x64x128 n (groupOf k) (laneOf k)).trans ?_) (column_apply S _ n (groupOf k))
  refine congrArg W (congrArg (ValueIdx.ix2 n) (Fin.ext ?_))
  show 128 * (k.val / 128) + k.val % 128 = k.val
  omega

theorem dot_eq : dot_S16384x8192_S14336x8192_S16384x14336_1_1_0_0_n_n = DotDims.transposedRhs 16384 8192 14336 := rfl

/-- The products. -/
theorem pay1_apply (X : Vec Ideal S16384x8192 .bf16) (W : Vec Ideal S14336x8192 .fp8e4m3) (S : Vec Ideal S14336x64 .f32) (r : Fin 16384) (n : Fin 14336) :
    k0_pay1 (k0_pay7 X) (k0_pay8 W S) (ValueIdx.ix2 r n) = rowDot (rowAt X r) (rowAt W n) (rowAt S n) := by
  show FloatOps.matmul dot_S16384x8192_S14336x8192_S16384x14336_1_1_0_0_n_n none (k0_pay7 X)
    (shapeCast S14336x8192 (k0_pay8 W S) shapeCasts_S14336x64x128_S14336x8192) (constant S16384x14336 .f32 0x00000000#32) (ValueIdx.ix2 r n) = _
  rw [dot_eq]
  refine (Ideal.matmul_transposedRhs_apply none _ _ _ r n).trans ?_
  rw [ValueIdx.constant_apply, Ideal.ofBits_zero_f32, zero_add]
  refine Finset.sum_congr rfl fun k _ => ?_
  rw [pay7_apply, pay8_apply]

end Cert.ReferenceIdeal.Payload
end
-- ==== Proof.ReferenceArrays.lean ====
module

public import proofs.«01_k».proof.Proof.Gen.ReferenceIdeal.Frame
public import proofs.«01_k».proof.Proof.ReferencePayload
public import Idealize.ShloMosaic.Lib.Pipeline.ValueKit

@[expose] public section

set_option maxRecDepth 16384

noncomputable section

/-! # The reference's three results

What the three result arrays of the reference hold after its run, over the extended reals, as functions of
the arguments. The reference has one grid point, whose blocks are the whole arrays. -/

namespace Cert.ReferenceIdeal.Gen

open Idealize.ShloMosaic Idealize.SL.Sem Idealize.ShloMosaic.TcCoe Idealize.ShloMosaic.Tactic
open Idealize.ShloMosaic.Pipeline (Dat Cfg Window)
open Cert.Rows

variable (m : (ℓ : Loc nD τ sig) → Buf (Elt Ideal) ℓ) (ρ : Dev nD → PrngReg)

/-- The activations as the reference reads them: the first argument with its leading two axes joined. -/
def acts (c : Dev nD) : S16384x8192.Idx → EReal :=
  shapeCast S16384x8192 (m ((c : Thread nD τ).loc main_arg0)) shapeCasts_S8x2048x8192_S16384x8192

/-- The codes of the weights. -/
def weights (c : Dev nD) : S14336x8192.Idx → EReal := m ((c : Thread nD τ).loc main_arg1)

/-- The scales of the weights. -/
def wscales (c : Dev nD) : S14336x64.Idx → EReal := m ((c : Thread nD τ).loc main_arg2)

theorem V_main_v0 (c : Dev nD) : (V m c main_v0 : S16384x8192.Idx → EReal) = acts m c := by
  show StableHlo.after hostOps0 _ (Proc.devRef .tc main_v0) = _
  after_results
  rfl

/-- Every block starts at the origin. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

/-- The one point's blocks are the whole arrays. -/
theorem block0 (c : Dev nD) (t : Fin cfg0.N) : (iblk m c 0 t : S16384x8192.Idx → EReal) = acts m c := by
  refine Eq.trans ?_ (V_main_v0 m c)
  funext y
  blk_ext [iblk, index_eq t]

theorem block1 (c : Dev nD) (t : Fin cfg0.N) : (iblk m c 1 t : S14336x8192.Idx → EReal) = weights m c := by
  refine Eq.trans ?_ (V_main_arg1 m c)
  funext y
  blk_ext [iblk, index_eq t]

theorem block2 (c : Dev nD) (t : Fin cfg0.N) : (iblk m c 2 t : S14336x64.Idx → EReal) = wscales m c := by
  refine Eq.trans ?_ (V_main_arg2 m c)
  funext y
  blk_ext [iblk, index_eq t]

/-- The products, at an index. -/
theorem product_value (X : Vec Ideal S16384x8192 .bf16) (W : Vec Ideal S14336x8192 .fp8e4m3) (S : Vec Ideal S14336x64 .f32)
    (y i : S16384x14336.Idx) (h0 : i 0 = y 0) (h1 : i 1 = y 1) : k0_pay1 (k0_pay7 X) (k0_pay8 W S) y = productOf X W S i := by
  obtain rfl : i = y := (ValueIdx.eq_ix2 i).trans ((congrArg₂ ValueIdx.ix2 h0 h1).trans (ValueIdx.eq_ix2 y).symm)
  exact (congrArg (k0_pay1 (k0_pay7 X) (k0_pay8 W S)) (ValueIdx.eq_ix2 i)).trans (Payload.pay1_apply X W S (i 0) (i 1))

/-- The codes, at an index. -/
theorem codes_value (X : Vec Ideal S16384x8192 .bf16) (y i : S16384x8192.Idx) (h0 : i 0 = y 0) (h1 : i 1 = y 1) :
    k0_pay2 (k0_pay6 X) y = codesOf X i := by
  obtain rfl : i = y := (ValueIdx.eq_ix2 i).trans ((congrArg₂ ValueIdx.ix2 h0 h1).trans (ValueIdx.eq_ix2 y).symm)
  exact (congrArg (k0_pay2 (k0_pay6 X)) (ValueIdx.eq_ix2 i)).trans (Payload.pay2_apply X (i 0) (i 1))

/-- The scales, at an index. -/
theorem scales_value (X : Vec Ideal S16384x8192 .bf16) (y i : S16384x64.Idx) (h0 : i 0 = y 0) (h1 : i 1 = y 1) :
    k0_pay5 X y = scalesOf X i := by
  obtain rfl : i = y := (ValueIdx.eq_ix2 i).trans ((congrArg₂ ValueIdx.ix2 h0 h1).trans (ValueIdx.eq_ix2 y).symm)
  exact (congrArg (k0_pay5 X) (ValueIdx.eq_ix2 i)).trans (Payload.pay5_apply X (i 0) (i 1))

/-- The first result after the run: the products. -/
theorem final3 (c : Dev nD) : (dats m 0 c).arrAt 3 cfg0.N = productOf (acts m c) (weights m c) (wscales m c) := by
  refine (dats m 0 c).arrAt_eq_of_covers 3 _ (by decide +kernel) fun t hf y => ?_
  blk_simp
  rw [after0_3]
  frame_out
  rw [block0, block1, block2]
  refine product_value _ _ _ y _ (Fin.ext ?_) (Fin.ext ?_)
  · blk_simp [index_eq t]
  · blk_simp [index_eq t]

/-- The second result after the run: the codes. -/
theorem final4 (c : Dev nD) : (dats m 0 c).arrAt 4 cfg0.N = codesOf (acts m c) := by
  refine (dats m 0 c).arrAt_eq_of_covers 4 _ (by decide +kernel) fun t hf y => ?_
  blk_simp
  rw [after0_4]
  frame_out
  rw [block0]
  refine codes_value _ y _ (Fin.ext ?_) (Fin.ext ?_)
  · blk_simp [index_eq t]
  · blk_simp [index_eq t]

/-- The third result after the run: the scales. -/
theorem final5 (c : Dev nD) : (dats m 0 c).arrAt 5 cfg0.N = scalesOf (acts m c) := by
  refine (dats m 0 c).arrAt_eq_of_covers 5 _ (by decide +kernel) fun t hf y => ?_
  blk_simp
  rw [after0_5]
  frame_out
  rw [block0]
  refine scales_value _ y _ (Fin.ext ?_) (Fin.ext ?_)
  · blk_simp [index_eq t]
  · blk_simp [index_eq t]

/-- What a run of the reference leaves: the three results, and the arguments unchanged. -/
theorem results : θ_run defs (onTc (τ := τ) (main (F := Ideal))) ⟨m, fun _ => 0, ρ⟩ (fun r => ∀ c : Dev nD,
      r.2.mem ((c.tc : Thread nD τ).loc main_v1_0) = productOf (acts m c) (weights m c) (wscales m c)
      ∧ r.2.mem ((c.tc : Thread nD τ).loc main_v1_1) = codesOf (acts m c)
      ∧ r.2.mem ((c.tc : Thread nD τ).loc main_v1_2) = scalesOf (acts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c),
    ((h.1 c).1 5).trans (final5 m c), h.2 c⟩) (θ_run_and (run_main m ρ) (unchanged m ρ))

end Cert.ReferenceIdeal.Gen
end
-- ==== Proof.Algebraic.lean ====
module

public import proofs.«01_k».proof.Defs
public import proofs.«01_k».proof.Proof.KernelArrays
public import proofs.«01_k».proof.Proof.ReferenceArrays

@[expose] public section

noncomputable section

/-! # The kernel and the reference leave the same results

Over the extended reals, from memories that agree on the arguments, when every magnitude of `x` is at most
the largest finite bfloat16. -/

namespace Cert.Proof

open Idealize.ShloMosaic Idealize.SL.Sem
open Cert.Rows

/-- The side condition of the precondition's function. -/
theorem finite_facts : Cert.Pre_finite.Facts := ⟨by decide⟩

/-- What the precondition says of each element of the first argument. -/
theorem bounded_of_finite [Cert.Pre_finite.Facts] (x : FVec Ideal Cert.Pre_finite.S8x2048x8192 .bf16)
    (w : FVec Ideal Cert.Pre_finite.S14336x8192 .fp8e4m3) (s : FVec Ideal Cert.Pre_finite.S14336x64 .f32)
    (h : Cert.Pre_finite.fn x w s = fun _ => 1#1) : Bounded (ι := Cert.Pre_finite.S8x2048x8192.Idx) x := by
  intro i
  have e : Ideal.cmp .ole (max (x i) (-x i)) Quantiser.bound = 1#1 := congrFun h i
  unfold Ideal.cmp at e
  by_contra hn
  simp [hn] at e

/-- So the activations the kernel reads are bounded. -/
theorem bounded_acts [Cert.Pre_finite.Facts] (m : (ℓ : Loc Cert.KernelIdeal.nD Cert.KernelIdeal.τ Cert.KernelIdeal.sig) → Buf (Elt Ideal) ℓ)
    (h : Pre_KernelIdeal_finite m) (c : Dev Cert.KernelIdeal.nD) : Bounded (Cert.KernelIdeal.Gen.acts m c) :=
  fun i => bounded_of_finite _ _ _ (h c) _

theorem algebraic [hPre_finite : Cert.Pre_finite.Facts] :
    algebraic_KernelIdeal_ReferenceIdeal_pre_finite (hKernelIdeal := Cert.KernelIdeal.Gen.facts) (hReferenceIdeal := Cert.ReferenceIdeal.Gen.facts) := by
  intro m g m' g' hpre hag
  have ea : ∀ c, Cert.ReferenceIdeal.Gen.acts m' c = Cert.KernelIdeal.Gen.acts m c := fun c =>
    congrArg (fun x => shapeCast Cert.KernelIdeal.S16384x8192 x Cert.KernelIdeal.Gen.shapeCasts_S8x2048x8192_S16384x8192) (hag c).1
  have ew : ∀ c, Cert.ReferenceIdeal.Gen.weights m' c = Cert.KernelIdeal.Gen.weights m c := fun c => (hag c).2.1
  have es : ∀ c, Cert.ReferenceIdeal.Gen.wscales m' c = Cert.KernelIdeal.Gen.wscales m c := fun c => (hag c).2.2
  refine ⟨fun c => productOf (Cert.KernelIdeal.Gen.acts m c) (Cert.KernelIdeal.Gen.weights m c) (Cert.KernelIdeal.Gen.wscales m c),
    fun c => codesOf (Cert.KernelIdeal.Gen.acts m c), fun c => scalesOf (Cert.KernelIdeal.Gen.acts m c),
    Cert.KernelIdeal.Gen.results m g (bounded_acts m hpre), ?_⟩
  refine (θ_run _ _ _).mono (fun r h c => ?_) (Cert.ReferenceIdeal.Gen.results m' g')
  have hc := h c
  rw [ea, ew, es] at hc
  exact hc

end Cert.Proof
end
-- ==== Proof.lean ====
module

public import proofs.«01_k».proof.Defs
public import proofs.«01_k».proof.Proof.Region
public import proofs.«01_k».proof.Proof.KernelFrame
public import proofs.«01_k».proof.Proof.Gen.ReferenceIdeal.Frame
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, finite_facts,
    fun m ρ _ => Cert.Kernel.Gen.quiescent m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic (hPre_finite := finite_facts)⟩

end Cert.Proof

end
